-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S2048x4096 : Shape := ⟨2, ![2048, 4096]⟩
abbrev S3x2048x2048 : Shape := ⟨3, ![3, 2048, 2048]⟩
abbrev S4x2048x2048 : Shape := ⟨3, ![4, 2048, 2048]⟩
abbrev S2x2048x512 : Shape := ⟨3, ![2, 2048, 512]⟩
abbrev S256x2048 : Shape := ⟨2, ![256, 2048]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x256x2048 : Shape := ⟨3, ![1, 256, 2048]⟩
abbrev S1x2048x2048 : Shape := ⟨3, ![1, 2048, 2048]⟩
abbrev S2048x2048 : Shape := ⟨2, ![2048, 2048]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x4096, .f32⟩
  | .hbm, ⟨3, _⟩ => ⟨S3x2048x2048, .bf16⟩
  | .local _ .vmem, ⟨0, _⟩ => ⟨S4x2048x2048, .bf16⟩
  | .local _ .vmem, ⟨1, _⟩ => ⟨S2x2048x512, .f32⟩
  | .local _ .vmem, ⟨2, _⟩ => ⟨S2x2048x512, .f32⟩
  | .local _ .vmem, ⟨3, _⟩ => ⟨S2x2048x512, .f32⟩
  | .local _ .vmem, ⟨4, _⟩ => ⟨S256x2048, .f32⟩
  | .local _ .vmem, ⟨5, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c0_i32_4 : BitVec 32 := 0#32
  let v15 : BitVec 1 := Scalar.cmpi .eq v4 c0_i32_4
  let v16 : BitVec 32 := Scalar.extui v15
  let c0_i32_5 : BitVec 32 := 0#32
  let v17 : BitVec 1 := Scalar.cmpi .ne v16 c0_i32_5
  v17

def k0_dev1 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v140 : BitVec 32 := Scalar.addi v2 c1_i32_77
  let c4_i32_78 : BitVec 32 := 4#32
  let c0_i32_79 : BitVec 32 := 0#32
  let v141 : BitVec 1 := Scalar.cmpi .eq c4_i32_78 c0_i32_79
  let c1_i32_80 : BitVec 32 := 1#32
  let v142 : BitVec 32 := Scalar.select v141 c1_i32_80 c4_i32_78
  let v143 : BitVec 32 := Scalar.remsi v140 v142
  let c0_i32_82 : BitVec 32 := 0#32
  let v145 : BitVec 1 := Scalar.cmpi .slt v143 c0_i32_82
  let c0_i32_83 : BitVec 32 := 0#32
  let v146 : BitVec 1 := Scalar.cmpi .slt v142 c0_i32_83
  let v147 : BitVec 1 := Scalar.xori v145 v146
  let c0_i32_81 : BitVec 32 := 0#32
  let v144 : BitVec 1 := Scalar.cmpi .ne v143 c0_i32_81
  let v148 : BitVec 1 := Scalar.andi v147 v144
  let v149 : BitVec 32 := Scalar.addi v143 v142
  let v150 : BitVec 32 := Scalar.select v148 v149 v143
  let c1_i32_85 : BitVec 32 := 1#32
  let v151 : BitVec 32 := Scalar.muli v150 c1_i32_85
  let v152 : BitVec 32 := Scalar.addi c0_i32_86 v151
  v152.toNat
def k0_dev2 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v153 : BitVec 32 := Scalar.addi v2 c2_i32_87
  let c4_i32_88 : BitVec 32 := 4#32
  let c0_i32_89 : BitVec 32 := 0#32
  let v154 : BitVec 1 := Scalar.cmpi .eq c4_i32_88 c0_i32_89
  let c1_i32_90 : BitVec 32 := 1#32
  let v155 : BitVec 32 := Scalar.select v154 c1_i32_90 c4_i32_88
  let v156 : BitVec 32 := Scalar.remsi v153 v155
  let c0_i32_92 : BitVec 32 := 0#32
  let v158 : BitVec 1 := Scalar.cmpi .slt v156 c0_i32_92
  let c0_i32_93 : BitVec 32 := 0#32
  let v159 : BitVec 1 := Scalar.cmpi .slt v155 c0_i32_93
  let v160 : BitVec 1 := Scalar.xori v158 v159
  let c0_i32_91 : BitVec 32 := 0#32
  let v157 : BitVec 1 := Scalar.cmpi .ne v156 c0_i32_91
  let v161 : BitVec 1 := Scalar.andi v160 v157
  let v162 : BitVec 32 := Scalar.addi v156 v155
  let v163 : BitVec 32 := Scalar.select v161 v162 v156
  let c1_i32_95 : BitVec 32 := 1#32
  let v164 : BitVec 32 := Scalar.muli v163 c1_i32_95
  let v165 : BitVec 32 := Scalar.addi c0_i32_96 v164
  v165.toNat
def k0_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_97 : BitVec 32 := 3#32
  let v166 : BitVec 32 := Scalar.addi v2 c3_i32_97
  let c4_i32_98 : BitVec 32 := 4#32
  let c0_i32_99 : BitVec 32 := 0#32
  let v167 : BitVec 1 := Scalar.cmpi .eq c4_i32_98 c0_i32_99
  let c1_i32_100 : BitVec 32 := 1#32
  let v168 : BitVec 32 := Scalar.select v167 c1_i32_100 c4_i32_98
  let v169 : BitVec 32 := Scalar.remsi v166 v168
  let c0_i32_102 : BitVec 32 := 0#32
  let v171 : BitVec 1 := Scalar.cmpi .slt v169 c0_i32_102
  let c0_i32_103 : BitVec 32 := 0#32
  let v172 : BitVec 1 := Scalar.cmpi .slt v168 c0_i32_103
  let v173 : BitVec 1 := Scalar.xori v171 v172
  let c0_i32_101 : BitVec 32 := 0#32
  let v170 : BitVec 1 := Scalar.cmpi .ne v169 c0_i32_101
  let v174 : BitVec 1 := Scalar.andi v173 v170
  let v175 : BitVec 32 := Scalar.addi v169 v168
  let v176 : BitVec 32 := Scalar.select v174 v175 v169
  let c1_i32_105 : BitVec 32 := 1#32
  let v177 : BitVec 32 := Scalar.muli v176 c1_i32_105
  let v178 : BitVec 32 := Scalar.addi c0_i32_106 v177
  v178.toNat
def k0_off1 (d0 : Dev nD) (c1_i32_108 : BitVec 32) (c0_i32_116 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v179 : BitVec 32 := Scalar.addi v2 c1_i32_108
  let c4_i32_109 : BitVec 32 := 4#32
  let c0_i32_110 : BitVec 32 := 0#32
  let v180 : BitVec 1 := Scalar.cmpi .eq c4_i32_109 c0_i32_110
  let c1_i32_111 : BitVec 32 := 1#32
  let v181 : BitVec 32 := Scalar.select v180 c1_i32_111 c4_i32_109
  let v182 : BitVec 32 := Scalar.remsi v179 v181
  let c0_i32_113 : BitVec 32 := 0#32
  let v184 : BitVec 1 := Scalar.cmpi .slt v182 c0_i32_113
  let c0_i32_114 : BitVec 32 := 0#32
  let v185 : BitVec 1 := Scalar.cmpi .slt v181 c0_i32_114
  let v186 : BitVec 1 := Scalar.xori v184 v185
  let c0_i32_112 : BitVec 32 := 0#32
  let v183 : BitVec 1 := Scalar.cmpi .ne v182 c0_i32_112
  let v187 : BitVec 1 := Scalar.andi v186 v183
  let v188 : BitVec 32 := Scalar.addi v182 v181
  let v189 : BitVec 32 := Scalar.select v187 v188 v182
  let c2048_i32_115 : BitVec 32 := 2048#32
  let v190 : BitVec 32 := Scalar.muli v189 c2048_i32_115
  let v191 : BitVec 32 := Scalar.addi v190 c0_i32_116
  let c0_i32_118 : BitVec 32 := 0#32
  ![v191.toNat, 0]
def k0_dev4 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_385 : BitVec 32 := 1#32
  let v555 : BitVec 32 := Scalar.addi v2 c1_i32_385
  let c4_i32_386 : BitVec 32 := 4#32
  let c0_i32_387 : BitVec 32 := 0#32
  let v556 : BitVec 1 := Scalar.cmpi .eq c4_i32_386 c0_i32_387
  let c1_i32_388 : BitVec 32 := 1#32
  let v557 : BitVec 32 := Scalar.select v556 c1_i32_388 c4_i32_386
  let v558 : BitVec 32 := Scalar.remsi v555 v557
  let c0_i32_390 : BitVec 32 := 0#32
  let v560 : BitVec 1 := Scalar.cmpi .slt v558 c0_i32_390
  let c0_i32_391 : BitVec 32 := 0#32
  let v561 : BitVec 1 := Scalar.cmpi .slt v557 c0_i32_391
  let v562 : BitVec 1 := Scalar.xori v560 v561
  let c0_i32_389 : BitVec 32 := 0#32
  let v559 : BitVec 1 := Scalar.cmpi .ne v558 c0_i32_389
  let v563 : BitVec 1 := Scalar.andi v562 v559
  let v564 : BitVec 32 := Scalar.addi v558 v557
  let v565 : BitVec 32 := Scalar.select v563 v564 v558
  let c1_i32_396 : BitVec 32 := 1#32
  let v566 : BitVec 32 := Scalar.muli v565 c1_i32_396
  let v567 : BitVec 32 := Scalar.addi c0_i32_397 v566
  v567.toNat
def k0_dev5 (d0 : Dev nD) : Nat :=
  let c0_i32_686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_674 : BitVec 32 := 3#32
  let v936 : BitVec 32 := Scalar.addi v2 c3_i32_674
  let c4_i32_675 : BitVec 32 := 4#32
  let c0_i32_676 : BitVec 32 := 0#32
  let v937 : BitVec 1 := Scalar.cmpi .eq c4_i32_675 c0_i32_676
  let c1_i32_677 : BitVec 32 := 1#32
  let v938 : BitVec 32 := Scalar.select v937 c1_i32_677 c4_i32_675
  let v939 : BitVec 32 := Scalar.remsi v936 v938
  let c0_i32_679 : BitVec 32 := 0#32
  let v941 : BitVec 1 := Scalar.cmpi .slt v939 c0_i32_679
  let c0_i32_680 : BitVec 32 := 0#32
  let v942 : BitVec 1 := Scalar.cmpi .slt v938 c0_i32_680
  let v943 : BitVec 1 := Scalar.xori v941 v942
  let c0_i32_678 : BitVec 32 := 0#32
  let v940 : BitVec 1 := Scalar.cmpi .ne v939 c0_i32_678
  let v944 : BitVec 1 := Scalar.andi v943 v940
  let v945 : BitVec 32 := Scalar.addi v939 v938
  let v946 : BitVec 32 := Scalar.select v944 v945 v939
  let c1_i32_685 : BitVec 32 := 1#32
  let v947 : BitVec 32 := Scalar.muli v946 c1_i32_685
  let v948 : BitVec 32 := Scalar.addi c0_i32_686 v947
  v948.toNat
def k0_dev6 (d0 : Dev nD) : Nat :=
  let c0_i32_975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_963 : BitVec 32 := 2#32
  let v1317 : BitVec 32 := Scalar.addi v2 c2_i32_963
  let c4_i32_964 : BitVec 32 := 4#32
  let c0_i32_965 : BitVec 32 := 0#32
  let v1318 : BitVec 1 := Scalar.cmpi .eq c4_i32_964 c0_i32_965
  let c1_i32_966 : BitVec 32 := 1#32
  let v1319 : BitVec 32 := Scalar.select v1318 c1_i32_966 c4_i32_964
  let v1320 : BitVec 32 := Scalar.remsi v1317 v1319
  let c0_i32_968 : BitVec 32 := 0#32
  let v1322 : BitVec 1 := Scalar.cmpi .slt v1320 c0_i32_968
  let c0_i32_969 : BitVec 32 := 0#32
  let v1323 : BitVec 1 := Scalar.cmpi .slt v1319 c0_i32_969
  let v1324 : BitVec 1 := Scalar.xori v1322 v1323
  let c0_i32_967 : BitVec 32 := 0#32
  let v1321 : BitVec 1 := Scalar.cmpi .ne v1320 c0_i32_967
  let v1325 : BitVec 1 := Scalar.andi v1324 v1321
  let v1326 : BitVec 32 := Scalar.addi v1320 v1319
  let v1327 : BitVec 32 := Scalar.select v1325 v1326 v1320
  let c1_i32_974 : BitVec 32 := 1#32
  let v1328 : BitVec 32 := Scalar.muli v1327 c1_i32_974
  let v1329 : BitVec 32 := Scalar.addi c0_i32_975 v1328
  v1329.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let false_1185 : BitVec 1 := 0#1
  let c1_i32_1186 : BitVec 32 := 1#32
  let false_1183 : BitVec 1 := 0#1
  let c3_i32_1184 : BitVec 32 := 3#32
  let v_false : BitVec 1 := 0#1
  let c2_i32_1181 : BitVec 32 := 2#32
  let c0_i32_1182 : BitVec 32 := 0#32
  let v1618 : BitVec 32 := Scalar.select v_false c2_i32_1181 c0_i32_1182
  let v1619 : BitVec 32 := Scalar.select false_1183 c3_i32_1184 v1618
  let v1620 : BitVec 32 := Scalar.select false_1185 c1_i32_1186 v1619
  let v1621 : BitVec 32 := Scalar.addi v2 v1620
  let c4_i32_1187 : BitVec 32 := 4#32
  let c0_i32_1188 : BitVec 32 := 0#32
  let v1622 : BitVec 1 := Scalar.cmpi .eq c4_i32_1187 c0_i32_1188
  let c1_i32_1189 : BitVec 32 := 1#32
  let v1623 : BitVec 32 := Scalar.select v1622 c1_i32_1189 c4_i32_1187
  let v1624 : BitVec 32 := Scalar.remsi v1621 v1623
  let c0_i32_1191 : BitVec 32 := 0#32
  let v1626 : BitVec 1 := Scalar.cmpi .slt v1624 c0_i32_1191
  let c0_i32_1192 : BitVec 32 := 0#32
  let v1627 : BitVec 1 := Scalar.cmpi .slt v1623 c0_i32_1192
  let v1628 : BitVec 1 := Scalar.xori v1626 v1627
  let c0_i32_1190 : BitVec 32 := 0#32
  let v1625 : BitVec 1 := Scalar.cmpi .ne v1624 c0_i32_1190
  let v1629 : BitVec 1 := Scalar.andi v1628 v1625
  let v1630 : BitVec 32 := Scalar.addi v1624 v1623
  let v1631 : BitVec 32 := Scalar.select v1629 v1630 v1624
  let c2048_i32_1193 : BitVec 32 := 2048#32
  let v1632 : BitVec 32 := Scalar.muli v1631 c2048_i32_1193
  let c0_i32_1198 : BitVec 32 := 0#32
  ![v1632.toNat, 0]
def k0_cond5 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c31_i32 : BitVec 32 := 31#32
  let v33 : BitVec 1 := Scalar.cmpi .slt v4 c31_i32
  let v34 : BitVec 32 := Scalar.extui v33
  let c0_i32_14 : BitVec 32 := 0#32
  let v35 : BitVec 1 := Scalar.cmpi .ne v34 c0_i32_14
  v35

def k0_off3 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c2_i32_91 : BitVec 32 := 2#32
  let c0_i32_92 : BitVec 32 := 0#32
  let v167 : BitVec 1 := Scalar.cmpi .eq c2_i32_91 c0_i32_92
  let c1_i32_93 : BitVec 32 := 1#32
  let v168 : BitVec 32 := Scalar.select v167 c1_i32_93 c2_i32_91
  let v169 : BitVec 32 := Scalar.remsi v139 v168
  let c0_i32_95 : BitVec 32 := 0#32
  let v171 : BitVec 1 := Scalar.cmpi .slt v169 c0_i32_95
  let c0_i32_96 : BitVec 32 := 0#32
  let v172 : BitVec 1 := Scalar.cmpi .slt v168 c0_i32_96
  let v173 : BitVec 1 := Scalar.xori v171 v172
  let c0_i32_94 : BitVec 32 := 0#32
  let v170 : BitVec 1 := Scalar.cmpi .ne v169 c0_i32_94
  let v174 : BitVec 1 := Scalar.andi v173 v170
  let v175 : BitVec 32 := Scalar.addi v169 v168
  let v176 : BitVec 32 := Scalar.select v174 v175 v169
  ![v176.toNat]
def k0_off4 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c2_i32_91 : BitVec 32 := 2#32
  let c0_i32_92 : BitVec 32 := 0#32
  let v167 : BitVec 1 := Scalar.cmpi .eq c2_i32_91 c0_i32_92
  let c1_i32_93 : BitVec 32 := 1#32
  let v168 : BitVec 32 := Scalar.select v167 c1_i32_93 c2_i32_91
  let v169 : BitVec 32 := Scalar.remsi v139 v168
  let c0_i32_95 : BitVec 32 := 0#32
  let v171 : BitVec 1 := Scalar.cmpi .slt v169 c0_i32_95
  let c0_i32_96 : BitVec 32 := 0#32
  let v172 : BitVec 1 := Scalar.cmpi .slt v168 c0_i32_96
  let v173 : BitVec 1 := Scalar.xori v171 v172
  let c0_i32_94 : BitVec 32 := 0#32
  let v170 : BitVec 1 := Scalar.cmpi .ne v169 c0_i32_94
  let v174 : BitVec 1 := Scalar.andi v173 v170
  let v175 : BitVec 32 := Scalar.addi v169 v168
  let v176 : BitVec 32 := Scalar.select v174 v175 v169
  let c0_i32_112 : BitVec 32 := 0#32
  let c0_i32_113 : BitVec 32 := 0#32
  ![v176.toNat, 0, 0]
def k0_off5 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c8_i32_78 : BitVec 32 := 8#32
  let c0_i32_81 : BitVec 32 := 0#32
  let v146 : BitVec 1 := Scalar.cmpi .sgt c8_i32_78 c0_i32_81
  let v147 : BitVec 32 := Scalar.extui v146
  let c0_i32_82 : BitVec 32 := 0#32
  let v148 : BitVec 1 := Scalar.cmpi .slt c8_i32_78 c0_i32_82
  let v149 : BitVec 32 := Scalar.extui v148
  let v150 : BitVec 32 := Scalar.subi v147 v149
  let v151 : BitVec 1 := Scalar.cmpi .ne v145 v150
  let v152 : BitVec 32 := Scalar.remsi v139 c8_i32_78
  let c0_i32_83 : BitVec 32 := 0#32
  let v153 : BitVec 1 := Scalar.cmpi .ne v152 c0_i32_83
  let v154 : BitVec 1 := Scalar.andi v151 v153
  let v140 : BitVec 32 := Scalar.divsi v139 c8_i32_78
  let c1_i32_84 : BitVec 32 := 1#32
  let v155 : BitVec 32 := Scalar.subi v140 c1_i32_84
  let v156 : BitVec 32 := Scalar.select v154 v155 v140
  let c1_i32_97 : BitVec 32 := 1#32
  let v177 : BitVec 1 := Scalar.cmpi .eq v156 c1_i32_97
  let c1_i32_103 : BitVec 32 := 1#32
  let c2_i32_98 : BitVec 32 := 2#32
  let v178 : BitVec 1 := Scalar.cmpi .eq v156 c2_i32_98
  let c3_i32_102 : BitVec 32 := 3#32
  let c3_i32_99 : BitVec 32 := 3#32
  let v179 : BitVec 1 := Scalar.cmpi .eq v156 c3_i32_99
  let c2_i32_100 : BitVec 32 := 2#32
  let c0_i32_101 : BitVec 32 := 0#32
  let v180 : BitVec 32 := Scalar.select v179 c2_i32_100 c0_i32_101
  let v181 : BitVec 32 := Scalar.select v178 c3_i32_102 v180
  let v182 : BitVec 32 := Scalar.select v177 c1_i32_103 v181
  let v183 : BitVec 32 := Scalar.addi v2 v182
  let c4_i32_104 : BitVec 32 := 4#32
  let c0_i32_105 : BitVec 32 := 0#32
  let v184 : BitVec 1 := Scalar.cmpi .eq c4_i32_104 c0_i32_105
  let c1_i32_106 : BitVec 32 := 1#32
  let v185 : BitVec 32 := Scalar.select v184 c1_i32_106 c4_i32_104
  let v186 : BitVec 32 := Scalar.remsi v183 v185
  let c0_i32_108 : BitVec 32 := 0#32
  let v188 : BitVec 1 := Scalar.cmpi .slt v186 c0_i32_108
  let c0_i32_109 : BitVec 32 := 0#32
  let v189 : BitVec 1 := Scalar.cmpi .slt v185 c0_i32_109
  let v190 : BitVec 1 := Scalar.xori v188 v189
  let c0_i32_107 : BitVec 32 := 0#32
  let v187 : BitVec 1 := Scalar.cmpi .ne v186 c0_i32_107
  let v191 : BitVec 1 := Scalar.andi v190 v187
  let v192 : BitVec 32 := Scalar.addi v186 v185
  let v193 : BitVec 32 := Scalar.select v191 v192 v186
  let c2048_i32_110 : BitVec 32 := 2048#32
  let v194 : BitVec 32 := Scalar.muli v193 c2048_i32_110
  let c8_i32_85 : BitVec 32 := 8#32
  let c0_i32_86 : BitVec 32 := 0#32
  let v157 : BitVec 1 := Scalar.cmpi .eq c8_i32_85 c0_i32_86
  let c1_i32_87 : BitVec 32 := 1#32
  let v158 : BitVec 32 := Scalar.select v157 c1_i32_87 c8_i32_85
  let v159 : BitVec 32 := Scalar.remsi v139 v158
  let c0_i32_89 : BitVec 32 := 0#32
  let v161 : BitVec 1 := Scalar.cmpi .slt v159 c0_i32_89
  let c0_i32_90 : BitVec 32 := 0#32
  let v162 : BitVec 1 := Scalar.cmpi .slt v158 c0_i32_90
  let v163 : BitVec 1 := Scalar.xori v161 v162
  let c0_i32_88 : BitVec 32 := 0#32
  let v160 : BitVec 1 := Scalar.cmpi .ne v159 c0_i32_88
  let v164 : BitVec 1 := Scalar.andi v163 v160
  let v165 : BitVec 32 := Scalar.addi v159 v158
  let v166 : BitVec 32 := Scalar.select v164 v165 v159
  let c512_i32_111 : BitVec 32 := 512#32
  let v195 : BitVec 32 := Scalar.muli v166 c512_i32_111
  ![v194.toNat, v195.toNat]
def k0_cond6 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c0_i32_79 : BitVec 32 := 0#32
  let v141 : BitVec 1 := Scalar.cmpi .sgt v139 c0_i32_79
  let v142 : BitVec 32 := Scalar.extui v141
  let c0_i32_80 : BitVec 32 := 0#32
  let v143 : BitVec 1 := Scalar.cmpi .slt v139 c0_i32_80
  let v144 : BitVec 32 := Scalar.extui v143
  let v145 : BitVec 32 := Scalar.subi v142 v144
  let c8_i32_78 : BitVec 32 := 8#32
  let c0_i32_81 : BitVec 32 := 0#32
  let v146 : BitVec 1 := Scalar.cmpi .sgt c8_i32_78 c0_i32_81
  let v147 : BitVec 32 := Scalar.extui v146
  let c0_i32_82 : BitVec 32 := 0#32
  let v148 : BitVec 1 := Scalar.cmpi .slt c8_i32_78 c0_i32_82
  let v149 : BitVec 32 := Scalar.extui v148
  let v150 : BitVec 32 := Scalar.subi v147 v149
  let v151 : BitVec 1 := Scalar.cmpi .ne v145 v150
  let v152 : BitVec 32 := Scalar.remsi v139 c8_i32_78
  let c0_i32_83 : BitVec 32 := 0#32
  let v153 : BitVec 1 := Scalar.cmpi .ne v152 c0_i32_83
  let v154 : BitVec 1 := Scalar.andi v151 v153
  let v140 : BitVec 32 := Scalar.divsi v139 c8_i32_78
  let c1_i32_84 : BitVec 32 := 1#32
  let v155 : BitVec 32 := Scalar.subi v140 c1_i32_84
  let v156 : BitVec 32 := Scalar.select v154 v155 v140
  let c0_i32_114 : BitVec 32 := 0#32
  let v201 : BitVec 1 := Scalar.cmpi .sgt v156 c0_i32_114
  let v202 : BitVec 32 := Scalar.extui v201
  let c0_i32_115 : BitVec 32 := 0#32
  let v203 : BitVec 1 := Scalar.cmpi .ne v202 c0_i32_115
  v203

def k0_off6 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c2_i32_91 : BitVec 32 := 2#32
  let c0_i32_92 : BitVec 32 := 0#32
  let v167 : BitVec 1 := Scalar.cmpi .eq c2_i32_91 c0_i32_92
  let c1_i32_93 : BitVec 32 := 1#32
  let v168 : BitVec 32 := Scalar.select v167 c1_i32_93 c2_i32_91
  let v169 : BitVec 32 := Scalar.remsi v139 v168
  let c0_i32_95 : BitVec 32 := 0#32
  let v171 : BitVec 1 := Scalar.cmpi .slt v169 c0_i32_95
  let c0_i32_96 : BitVec 32 := 0#32
  let v172 : BitVec 1 := Scalar.cmpi .slt v168 c0_i32_96
  let v173 : BitVec 1 := Scalar.xori v171 v172
  let c0_i32_94 : BitVec 32 := 0#32
  let v170 : BitVec 1 := Scalar.cmpi .ne v169 c0_i32_94
  let v174 : BitVec 1 := Scalar.andi v173 v170
  let v175 : BitVec 32 := Scalar.addi v169 v168
  let v176 : BitVec 32 := Scalar.select v174 v175 v169
  ![v176.toNat]
def k0_off7 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c2_i32_91 : BitVec 32 := 2#32
  let c0_i32_92 : BitVec 32 := 0#32
  let v167 : BitVec 1 := Scalar.cmpi .eq c2_i32_91 c0_i32_92
  let c1_i32_93 : BitVec 32 := 1#32
  let v168 : BitVec 32 := Scalar.select v167 c1_i32_93 c2_i32_91
  let v169 : BitVec 32 := Scalar.remsi v139 v168
  let c0_i32_95 : BitVec 32 := 0#32
  let v171 : BitVec 1 := Scalar.cmpi .slt v169 c0_i32_95
  let c0_i32_96 : BitVec 32 := 0#32
  let v172 : BitVec 1 := Scalar.cmpi .slt v168 c0_i32_96
  let v173 : BitVec 1 := Scalar.xori v171 v172
  let c0_i32_94 : BitVec 32 := 0#32
  let v170 : BitVec 1 := Scalar.cmpi .ne v169 c0_i32_94
  let v174 : BitVec 1 := Scalar.andi v173 v170
  let v175 : BitVec 32 := Scalar.addi v169 v168
  let v176 : BitVec 32 := Scalar.select v174 v175 v169
  let c0_i32_117 : BitVec 32 := 0#32
  let c0_i32_118 : BitVec 32 := 0#32
  ![v176.toNat, 0, 0]
def k0_off8 (i : grid0.Coords) : Fin 2 → Nat :=
  let c0_i32_119 : BitVec 32 := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_77 : BitVec 32 := 1#32
  let v139 : BitVec 32 := Scalar.addi v4 c1_i32_77
  let c8_i32_85 : BitVec 32 := 8#32
  let c0_i32_86 : BitVec 32 := 0#32
  let v157 : BitVec 1 := Scalar.cmpi .eq c8_i32_85 c0_i32_86
  let c1_i32_87 : BitVec 32 := 1#32
  let v158 : BitVec 32 := Scalar.select v157 c1_i32_87 c8_i32_85
  let v159 : BitVec 32 := Scalar.remsi v139 v158
  let c0_i32_89 : BitVec 32 := 0#32
  let v161 : BitVec 1 := Scalar.cmpi .slt v159 c0_i32_89
  let c0_i32_90 : BitVec 32 := 0#32
  let v162 : BitVec 1 := Scalar.cmpi .slt v158 c0_i32_90
  let v163 : BitVec 1 := Scalar.xori v161 v162
  let c0_i32_88 : BitVec 32 := 0#32
  let v160 : BitVec 1 := Scalar.cmpi .ne v159 c0_i32_88
  let v164 : BitVec 1 := Scalar.andi v163 v160
  let v165 : BitVec 32 := Scalar.addi v159 v158
  let v166 : BitVec 32 := Scalar.select v164 v165 v159
  let c512_i32_116 : BitVec 32 := 512#32
  let v204 : BitVec 32 := Scalar.muli v166 c512_i32_116
  ![0, v204.toNat]
def k0_cond7 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32_15 : BitVec 32 := 2#32
  let v36 : BitVec 1 := Scalar.cmpi .sge v4 c2_i32_15
  let v37 : BitVec 32 := Scalar.extui v36
  let c0_i32_16 : BitVec 32 := 0#32
  let v38 : BitVec 1 := Scalar.cmpi .ne v37 c0_i32_16
  v38

def k0_off9 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  ![v14.toNat]
def k0_off10 (i : grid0.Coords) : Fin 2 → Nat :=
  let c0_i32_78 : BitVec 32 := 0#32
  let arg1 : BitVec 32 := BitVec.ofNat 32 (i 1).val
  let c512_i32_77 : BitVec 32 := 512#32
  let v139 : BitVec 32 := Scalar.muli arg1 c512_i32_77
  ![0, v139.toNat]
def k0_off11 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c0_i32_79 : BitVec 32 := 0#32
  let c0_i32_80 : BitVec 32 := 0#32
  ![v14.toNat, 0, 0]
def k0_off12 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  ![v14.toNat]
def k0_off13 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c0_i32_30 : BitVec 32 := 0#32
  let c0_i32_31 : BitVec 32 := 0#32
  ![v14.toNat, 0, 0]
def k0_off14 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c1_i32_17 : BitVec 32 := 1#32
  let v39 : BitVec 1 := Scalar.cmpi .eq arg0 c1_i32_17
  let c1_i32_23 : BitVec 32 := 1#32
  let c2_i32_18 : BitVec 32 := 2#32
  let v40 : BitVec 1 := Scalar.cmpi .eq arg0 c2_i32_18
  let c3_i32_22 : BitVec 32 := 3#32
  let c3_i32_19 : BitVec 32 := 3#32
  let v41 : BitVec 1 := Scalar.cmpi .eq arg0 c3_i32_19
  let c2_i32_20 : BitVec 32 := 2#32
  let c0_i32_21 : BitVec 32 := 0#32
  let v42 : BitVec 32 := Scalar.select v41 c2_i32_20 c0_i32_21
  let v43 : BitVec 32 := Scalar.select v40 c3_i32_22 v42
  let v44 : BitVec 32 := Scalar.select v39 c1_i32_23 v43
  let v45 : BitVec 32 := Scalar.addi v2 v44
  let c4_i32_24 : BitVec 32 := 4#32
  let c0_i32_25 : BitVec 32 := 0#32
  let v46 : BitVec 1 := Scalar.cmpi .eq c4_i32_24 c0_i32_25
  let c1_i32_26 : BitVec 32 := 1#32
  let v47 : BitVec 32 := Scalar.select v46 c1_i32_26 c4_i32_24
  let v48 : BitVec 32 := Scalar.remsi v45 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c2048_i32 : BitVec 32 := 2048#32
  let v56 : BitVec 32 := Scalar.muli v55 c2048_i32
  let arg1 : BitVec 32 := BitVec.ofNat 32 (i 1).val
  let c512_i32 : BitVec 32 := 512#32
  let v57 : BitVec 32 := Scalar.muli arg1 c512_i32
  ![v56.toNat, v57.toNat]
def k0_cond8 (i : grid0.Coords) : BitVec 1 :=
  let arg0 : BitVec 32 := BitVec.ofNat 32 (i 0).val
  let c0_i32_32 : BitVec 32 := 0#32
  let v63 : BitVec 1 := Scalar.cmpi .sgt arg0 c0_i32_32
  let v64 : BitVec 32 := Scalar.extui v63
  let c0_i32_33 : BitVec 32 := 0#32
  let v65 : BitVec 1 := Scalar.cmpi .ne v64 c0_i32_33
  v65

def k0_off15 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  ![v14.toNat]
def k0_off16 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c0_i32_78 : BitVec 32 := 0#32
  let c0_i32_79 : BitVec 32 := 0#32
  ![v14.toNat, 0, 0]
def k0_off17 (i : grid0.Coords) : Fin 2 → Nat :=
  let c0_i32_80 : BitVec 32 := 0#32
  let arg1 : BitVec 32 := BitVec.ofNat 32 (i 1).val
  let c512_i32_77 : BitVec 32 := 512#32
  let v139 : BitVec 32 := Scalar.muli arg1 c512_i32_77
  ![0, v139.toNat]
def k0_off18 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v66 : Index := Scalar.indexCast v14
  let c0 : Index := 0#32
  let c0_34 : Index := 0#32
  ![v66.toNat, 0, 0]
def k0_off19 (i : grid0.Coords) : Fin 3 → Nat :=
  let arg0 : BitVec 32 := BitVec.ofNat 32 (i 0).val
  let v70 : Index := Scalar.indexCast arg0
  let c0_35 : Index := 0#32
  let c0_36 : Index := 0#32
  ![v70.toNat, 0, 0]
def k0_cond9 (i : grid0.Coords) : BitVec 1 :=
  let arg0 : BitVec 32 := BitVec.ofNat 32 (i 0).val
  let c0_i32_37 : BitVec 32 := 0#32
  let v74 : BitVec 1 := Scalar.cmpi .eq arg0 c0_i32_37
  let v75 : BitVec 32 := Scalar.extui v74
  let c0_i32_38 : BitVec 32 := 0#32
  let v76 : BitVec 1 := Scalar.cmpi .ne v75 c0_i32_38
  v76

def k0_off20 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c0_77 : Index := 0#32
  let c0_78 : Index := 0#32
  ![v139.toNat, 0, 0]
def k0_cond10 (i : grid0.Coords) : BitVec 1 :=
  let arg0 : BitVec 32 := BitVec.ofNat 32 (i 0).val
  let c0_i32_39 : BitVec 32 := 0#32
  let v77 : BitVec 1 := Scalar.cmpi .sgt arg0 c0_i32_39
  let c3_i32_40 : BitVec 32 := 3#32
  let v78 : BitVec 1 := Scalar.cmpi .slt arg0 c3_i32_40
  let v79 : BitVec 1 := Scalar.andi v77 v78
  let v80 : BitVec 32 := Scalar.extui v79
  let c0_i32_41 : BitVec 32 := 0#32
  let v81 : BitVec 1 := Scalar.cmpi .ne v80 c0_i32_41
  v81

def k0_off21 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c0_77 : Index := 0#32
  let c0_78 : Index := 0#32
  ![v139.toNat, 0, 0]
def k0_cond11 (i : grid0.Coords) : BitVec 1 :=
  let arg0 : BitVec 32 := BitVec.ofNat 32 (i 0).val
  let c3_i32_42 : BitVec 32 := 3#32
  let v82 : BitVec 1 := Scalar.cmpi .eq arg0 c3_i32_42
  let v83 : BitVec 32 := Scalar.extui v82
  let c0_i32_43 : BitVec 32 := 0#32
  let v84 : BitVec 1 := Scalar.cmpi .ne v83 c0_i32_43
  v84

def k0_off22 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c0_77 : Index := 0#32
  let c0_78 : Index := 0#32
  ![v139.toNat, 0, 0]
def k0_off23 (i : grid0.Coords) : Fin 3 → Nat :=
  let arg0 : BitVec 32 := BitVec.ofNat 32 (i 0).val
  let v85 : Index := Scalar.indexCast arg0
  let c512 : Index := 512#32
  let c0_44 : Index := 0#32
  ![v85.toNat, 512, 0]
def k0_cond12 (i : grid0.Coords) : BitVec 1 :=
  let arg0 : BitVec 32 := BitVec.ofNat 32 (i 0).val
  let c0_i32_46 : BitVec 32 := 0#32
  let v89 : BitVec 1 := Scalar.cmpi .eq arg0 c0_i32_46
  let v90 : BitVec 32 := Scalar.extui v89
  let c0_i32_47 : BitVec 32 := 0#32
  let v91 : BitVec 1 := Scalar.cmpi .ne v90 c0_i32_47
  v91

def k0_off24 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c512_77 : Index := 512#32
  let c0_78 : Index := 0#32
  ![v139.toNat, 512, 0]
def k0_cond13 (i : grid0.Coords) : BitVec 1 :=
  let arg0 : BitVec 32 := BitVec.ofNat 32 (i 0).val
  let c0_i32_48 : BitVec 32 := 0#32
  let v92 : BitVec 1 := Scalar.cmpi .sgt arg0 c0_i32_48
  let c3_i32_49 : BitVec 32 := 3#32
  let v93 : BitVec 1 := Scalar.cmpi .slt arg0 c3_i32_49
  let v94 : BitVec 1 := Scalar.andi v92 v93
  let v95 : BitVec 32 := Scalar.extui v94
  let c0_i32_50 : BitVec 32 := 0#32
  let v96 : BitVec 1 := Scalar.cmpi .ne v95 c0_i32_50
  v96

def k0_off25 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c512_77 : Index := 512#32
  let c0_78 : Index := 0#32
  ![v139.toNat, 512, 0]
def k0_cond14 (i : grid0.Coords) : BitVec 1 :=
  let arg0 : BitVec 32 := BitVec.ofNat 32 (i 0).val
  let c3_i32_51 : BitVec 32 := 3#32
  let v97 : BitVec 1 := Scalar.cmpi .eq arg0 c3_i32_51
  let v98 : BitVec 32 := Scalar.extui v97
  let c0_i32_52 : BitVec 32 := 0#32
  let v99 : BitVec 1 := Scalar.cmpi .ne v98 c0_i32_52
  v99

def k0_off26 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c512_77 : Index := 512#32
  let c0_78 : Index := 0#32
  ![v139.toNat, 512, 0]
def k0_off27 (i : grid0.Coords) : Fin 3 → Nat :=
  let arg0 : BitVec 32 := BitVec.ofNat 32 (i 0).val
  let v100 : Index := Scalar.indexCast arg0
  let c1024 : Index := 1024#32
  let c0_53 : Index := 0#32
  ![v100.toNat, 1024, 0]
def k0_cond15 (i : grid0.Coords) : BitVec 1 :=
  let arg0 : BitVec 32 := BitVec.ofNat 32 (i 0).val
  let c0_i32_55 : BitVec 32 := 0#32
  let v104 : BitVec 1 := Scalar.cmpi .eq arg0 c0_i32_55
  let v105 : BitVec 32 := Scalar.extui v104
  let c0_i32_56 : BitVec 32 := 0#32
  let v106 : BitVec 1 := Scalar.cmpi .ne v105 c0_i32_56
  v106

def k0_off28 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1024_77 : Index := 1024#32
  let c0_78 : Index := 0#32
  ![v139.toNat, 1024, 0]
def k0_cond16 (i : grid0.Coords) : BitVec 1 :=
  let arg0 : BitVec 32 := BitVec.ofNat 32 (i 0).val
  let c0_i32_57 : BitVec 32 := 0#32
  let v107 : BitVec 1 := Scalar.cmpi .sgt arg0 c0_i32_57
  let c3_i32_58 : BitVec 32 := 3#32
  let v108 : BitVec 1 := Scalar.cmpi .slt arg0 c3_i32_58
  let v109 : BitVec 1 := Scalar.andi v107 v108
  let v110 : BitVec 32 := Scalar.extui v109
  let c0_i32_59 : BitVec 32 := 0#32
  let v111 : BitVec 1 := Scalar.cmpi .ne v110 c0_i32_59
  v111

def k0_off29 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1024_77 : Index := 1024#32
  let c0_78 : Index := 0#32
  ![v139.toNat, 1024, 0]
def k0_cond17 (i : grid0.Coords) : BitVec 1 :=
  let arg0 : BitVec 32 := BitVec.ofNat 32 (i 0).val
  let c3_i32_60 : BitVec 32 := 3#32
  let v112 : BitVec 1 := Scalar.cmpi .eq arg0 c3_i32_60
  let v113 : BitVec 32 := Scalar.extui v112
  let c0_i32_61 : BitVec 32 := 0#32
  let v114 : BitVec 1 := Scalar.cmpi .ne v113 c0_i32_61
  v114

def k0_off30 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1024_77 : Index := 1024#32
  let c0_78 : Index := 0#32
  ![v139.toNat, 1024, 0]
def k0_off31 (i : grid0.Coords) : Fin 3 → Nat :=
  let arg0 : BitVec 32 := BitVec.ofNat 32 (i 0).val
  let v115 : Index := Scalar.indexCast arg0
  let c1536 : Index := 1536#32
  let c0_62 : Index := 0#32
  ![v115.toNat, 1536, 0]
def k0_cond18 (i : grid0.Coords) : BitVec 1 :=
  let arg0 : BitVec 32 := BitVec.ofNat 32 (i 0).val
  let c0_i32_64 : BitVec 32 := 0#32
  let v119 : BitVec 1 := Scalar.cmpi .eq arg0 c0_i32_64
  let v120 : BitVec 32 := Scalar.extui v119
  let c0_i32_65 : BitVec 32 := 0#32
  let v121 : BitVec 1 := Scalar.cmpi .ne v120 c0_i32_65
  v121

def k0_off32 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1536_77 : Index := 1536#32
  let c0_78 : Index := 0#32
  ![v139.toNat, 1536, 0]
def k0_cond19 (i : grid0.Coords) : BitVec 1 :=
  let arg0 : BitVec 32 := BitVec.ofNat 32 (i 0).val
  let c0_i32_66 : BitVec 32 := 0#32
  let v122 : BitVec 1 := Scalar.cmpi .sgt arg0 c0_i32_66
  let c3_i32_67 : BitVec 32 := 3#32
  let v123 : BitVec 1 := Scalar.cmpi .slt arg0 c3_i32_67
  let v124 : BitVec 1 := Scalar.andi v122 v123
  let v125 : BitVec 32 := Scalar.extui v124
  let c0_i32_68 : BitVec 32 := 0#32
  let v126 : BitVec 1 := Scalar.cmpi .ne v125 c0_i32_68
  v126

def k0_off33 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1536_77 : Index := 1536#32
  let c0_78 : Index := 0#32
  ![v139.toNat, 1536, 0]
def k0_cond20 (i : grid0.Coords) : BitVec 1 :=
  let arg0 : BitVec 32 := BitVec.ofNat 32 (i 0).val
  let c3_i32_69 : BitVec 32 := 3#32
  let v127 : BitVec 1 := Scalar.cmpi .eq arg0 c3_i32_69
  let v128 : BitVec 32 := Scalar.extui v127
  let c0_i32_70 : BitVec 32 := 0#32
  let v129 : BitVec 1 := Scalar.cmpi .ne v128 c0_i32_70
  v129

def k0_off34 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : Index := Scalar.indexCast v14
  let c1536_77 : Index := 1536#32
  let c0_78 : Index := 0#32
  ![v139.toNat, 1536, 0]
def k0_off35 (i : grid0.Coords) : Fin 2 → Nat :=
  let c0_i32_72 : BitVec 32 := 0#32
  let arg1 : BitVec 32 := BitVec.ofNat 32 (i 1).val
  let c512_i32_71 : BitVec 32 := 512#32
  let v130 : BitVec 32 := Scalar.muli arg1 c512_i32_71
  ![0, v130.toNat]
def k0_cond21 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c31_i32_75 : BitVec 32 := 31#32
  let v136 : BitVec 1 := Scalar.cmpi .eq v4 c31_i32_75
  let v137 : BitVec 32 := Scalar.extui v136
  let c0_i32_76 : BitVec 32 := 0#32
  let v138 : BitVec 1 := Scalar.cmpi .ne v137 c0_i32_76
  v138

def k0_off36 (i : grid0.Coords) : Fin 1 → Nat :=
  let c1_i32_77 : BitVec 32 := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : BitVec 32 := Scalar.subi c1_i32_77 v14
  ![v139.toNat]
def k0_off37 (i : grid0.Coords) : Fin 2 → Nat :=
  let c0_i32_79 : BitVec 32 := 0#32
  let arg1 : BitVec 32 := BitVec.ofNat 32 (i 1).val
  let c512_i32_78 : BitVec 32 := 512#32
  let v140 : BitVec 32 := Scalar.muli arg1 c512_i32_78
  ![0, v140.toNat]
def k0_off38 (i : grid0.Coords) : Fin 3 → Nat :=
  let c1_i32_77 : BitVec 32 := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v139 : BitVec 32 := Scalar.subi c1_i32_77 v14
  let c0_i32_80 : BitVec 32 := 0#32
  let c0_i32_81 : BitVec 32 := 0#32
  ![v139.toNat, 0, 0]
def k0_off39 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  ![v14.toNat]
def k0_off40 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32_0 : BitVec 32 := 1#32
  let v6 : BitVec 32 := Scalar.select v5 c1_i32_0 c2_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c0_i32_84 : BitVec 32 := 0#32
  let c0_i32_85 : BitVec 32 := 0#32
  ![v14.toNat, 0, 0]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Exchange.lean ====
/-
  The text of the first grid point's exchange, folded. The kernel writes its thirty-two conversions one
  after the other; here one conversion is written once, at a slab `d` (which of the four row blocks of the
  device's columns of `x` is converted: the three that go to the other devices, then the device's own) and
  a piece `k` (256 of the block's 2048 rows), and the exchange is the sequence of them. `k0_part47_eq`
  says that this is the printed text.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Exchange

open Cert.KernelIdeal Cert.KernelIdeal.Gen
open Idealize.ShloMosaic Idealize.SL.Sem
open Idealize.ShloMosaic.TcCoe

variable {F : FTy → Type} [FloatOps F]

/-- The programs of the kernel. -/
abbrev KProg (F : FTy → Type) (α : Type _) := Prog (TpuEff nD τ sig (Elt F) Λ₀ .tc) α

/-- The word added to a device's own number: slab `d` is for the device so many further on. -/
def offW : Fin 4 → Fin 4 := ![1, 3, 2, 0]

/-- The slab and the piece after `(d, k)`. -/
def nxtD (d : Fin 4) (k : Fin 8) : Fin 4 := if k = 7 then d + 1 else d

/-- The slot of the communication buffer that slab `d` lands in. -/
def slotOf : Fin 3 → Fin 4 := ![2, 1, 3]

/-- A slab that goes to another device, as one of the four. -/
def up (d : Fin 3) : Fin 4 := ⟨d.val, Nat.lt_succ_of_lt d.isLt⟩

/-- A piece of a slab is inside the slabs. -/
theorem inb_conv (d : Fin 3) (k : Fin 8) : ∀ a, (![d.val, 256 * k.val, 0] : Fin 3 → Nat) a + S1x256x2048.size a ≤ S3x2048x2048.size a := by
  revert d k; decide

/-- A piece of the device's own slot is inside the communication buffer. -/
theorem inb_own (k : Fin 8) : ∀ a, (![0, 256 * k.val, 0] : Fin 3 → Nat) a + S1x256x2048.size a ≤ S4x2048x2048.size a := by
  revert k; decide

/-- A slab is inside the slabs. -/
theorem inb_slab (d : Fin 3) : ∀ a, (![d.val, 0, 0] : Fin 3 → Nat) a + S1x2048x2048.size a ≤ S3x2048x2048.size a := by
  revert d; decide

/-- A slot is inside the communication buffer. -/
theorem inb_slot (s : Fin 4) : ∀ a, (![s.val, 0, 0] : Fin 3 → Nat) a + S1x2048x2048.size a ≤ S4x2048x2048.size a := by
  revert s; decide

/-- A semaphore of a family of three is inside it. -/
theorem inb_sem3 (s : Fin 3) : ∀ a, (![s.val] : Fin 1 → Nat) a + S1.size a ≤ S3.size a := by
  revert s; decide

/-- A semaphore of a family of four is inside it. -/
theorem inb_sem4 (s : Fin 4) : ∀ a, (![s.val] : Fin 1 → Nat) a + S1.size a ≤ S4.size a := by
  revert s; decide

/-- A piece of a slab is made of whole words. -/
theorem words_conv (d : Fin 3) (k : Fin 8) :
    (Rect.unit (s := S3x2048x2048) ![d.val, 256 * k.val, 0] S1x256x2048.size (inb_conv d k)).WholeWords (EltTy.packing .bf16) := by
  revert d k; decide

/-- A slab is made of whole words. -/
theorem words_slab (d : Fin 3) :
    (Rect.unit (s := S3x2048x2048) ![d.val, 0, 0] S1x2048x2048.size (inb_slab d)).WholeWords (EltTy.packing .bf16) := by
  revert d; decide

/-- A slot is made of whole words. -/
theorem words_slot (s : Fin 4) :
    (Rect.unit (s := S4x2048x2048) ![s.val, 0, 0] S1x2048x2048.size (inb_slot s)).WholeWords (EltTy.packing .bf16) := by
  revert s; decide

/-- A piece of the device's own slot is made of whole packed rows. -/
theorem packed_own (k : Fin 8) :
    (Rect.unit (s := S4x2048x2048) ![0, 256 * k.val, 0] S1x256x2048.size (inb_own k)).PackedRows (EltTy.packing .bf16) := by
  revert k; decide

section Text

variable (i : grid0.Coords) (c : Dev nD) (h1 : k0_cond1 i = 1#1)

/-- The rows of `x` that piece `k` of slab `d` converts. -/
abbrev inSrc (d : Fin 4) (k : Fin 8) : Memref sig .tc .hbm S256x2048 .f32 :=
  (Memref.whole main_arg0).slice (Rect.unit (s := S8192x2048)
    (k0_off1 c (BitVec.ofNat 32 (offW d).val) (BitVec.ofNat 32 (256 * k.val))) S256x2048.size (k0_off1_inb i c h1 (offW d) k)) (fun _ => rfl)

/-- The semaphores of the conversion's own transfers: `0` of the rows read, `2` of the rows written. -/
abbrev convSem (s : Fin 3) : DmaSem sig := ((cc0_scratch8.slice (Rect.unit (s := S3) ![s.val] S1.size (inb_sem3 s))).squeeze S_ squeezes_S1_S_).sem
/-- The semaphore that the read-out of slab `d`'s remote copy signals. -/
abbrev sendSem (s : Fin 3) : DmaSem sig := ((cc0_scratch6.slice (Rect.unit (s := S3) ![s.val] S1.size (inb_sem3 s))).squeeze S_ squeezes_S1_S_).sem
/-- The semaphore that the landing in slot `s` signals. -/
abbrev recvSem (s : Fin 4) : DmaSem sig := ((cc0_scratch7.slice (Rect.unit (s := S4) ![s.val] S1.size (inb_sem4 s))).squeeze S_ squeezes_S1_S_).sem

/-- Where piece `k` of slab `d` is written. -/
abbrev convDst (d : Fin 3) (k : Fin 8) : Memref sig .tc .hbm S256x2048 .bf16 :=
  ((Memref.whole main_v1_1).slice (Rect.unit (s := S3x2048x2048) ![d.val, 256 * k.val, 0] S1x256x2048.size (inb_conv d k)) (fun _ => rfl)).squeeze
    S256x2048 squeezes_S1x256x2048_S256x2048

/-- Slab `d`, whole. -/
abbrev slabM (d : Fin 3) : Memref sig .tc .hbm S2048x2048 .bf16 :=
  ((Memref.whole main_v1_1).slice (Rect.unit (s := S3x2048x2048) ![d.val, 0, 0] S1x2048x2048.size (inb_slab d)) (fun _ => rfl)).squeeze
    S2048x2048 squeezes_S1x2048x2048_S2048x2048

/-- Slot `s` of the communication buffer. -/
abbrev slotM (s : Fin 4) : Memref sig .tc .vmem S2048x2048 .bf16 :=
  ((Memref.whole cc0_scratch0).slice (Rect.unit (s := S4x2048x2048) ![s.val, 0, 0] S1x2048x2048.size (inb_slot s)) (fun _ => rfl)).squeeze
    S2048x2048 squeezes_S1x2048x2048_S2048x2048

/-- The whole of a 256-row buffer, as the rectangle that the loads and stores name. -/
abbrev rC : Rect S256x2048 := Rect.unit (s := S256x2048) ![0, 0] S256x2048.size inb_S256x2048_S256x2048_0_0

/-- The rows of the device's own slot that piece `k` fills. -/
abbrev rOwn (k : Fin 8) : Rect S4x2048x2048 := Rect.unit (s := S4x2048x2048) ![0, 256 * k.val, 0] S1x256x2048.size (inb_own k)

/-- Start reading the rows of piece `(d, k)`. -/
def inStart (d : Fin 4) (k : Fin 8) : KProg F PUnit :=
  Prog.lift (.enqueueDma (inSrc i c h1 d k) (.here (Memref.whole cc0_scratch4)) (.dma (convSem 0)) (View.wordExact_bits rfl)
    (Memref.isWhole_whole cc0_scratch4).wordExact ⟨Or.inl rfl, trivial⟩)

/-- Wait for them. -/
def inWait (d : Fin 4) (k : Fin 8) : KProg F PUnit :=
  Prog.lift (.waitDma2 (convSem 0) (inSrc i c h1 d k) (Memref.whole cc0_scratch4) (View.wordExact_bits rfl) (Memref.isWhole_whole cc0_scratch4).wordExact)

/-- Load them. -/
def inLoad : KProg F (Vec F S256x2048 .f32) :=
  Prog.lift (.load (Memref.whole cc0_scratch4) rC.toLoadRect (View.loadsAt_vmem h_S256x2048))

/-- Start writing the converted rows of piece `(d, k)` out. -/
def outStart (d : Fin 3) (k : Fin 8) : KProg F PUnit :=
  Prog.lift (.enqueueDma (Memref.whole cc0_scratch5) (.here (convDst d k)) (.dma (convSem 2)) (Memref.isWhole_whole cc0_scratch5).wordExact
    (((Memref.isWhole_whole main_v1_1).wordExact_slice rfl _ (words_conv d k)).reshape _ _) ⟨Or.inl rfl, trivial⟩)

/-- Wait for that. -/
def outWait (d : Fin 3) (k : Fin 8) : KProg F PUnit :=
  Prog.lift (.waitDma2 (convSem 2) (Memref.whole cc0_scratch5) (convDst d k) (Memref.isWhole_whole cc0_scratch5).wordExact
    (((Memref.isWhole_whole main_v1_1).wordExact_slice rfl _ (words_conv d k)).reshape _ _))

/-- Put the converted rows into the staging buffer. -/
def stageStore (v : Vec F S256x2048 .f32) : KProg F PUnit := do
  let _ ← Prog.lift (.load (Memref.whole cc0_scratch5) rC.toLoadRect (View.loadsAt_vmem h_S256x2048))
  Prog.lift (.store (Memref.whole cc0_scratch5) rC (k0_pay1 v) Finset.univ
    (View.stores_vmem h_S256x2048 ((Memref.isWhole_whole cc0_scratch5).storeExact_slice rfl _ packedbf16_S256x2048_S256x2048_0_0) (fun _ => rfl)) (.inl rfl))

/-- The first piece of slab `d`: no write of the slab is under way yet. -/
def firstPiece (d : Fin 3) : KProg F PUnit := do
  inWait i c h1 (up d) 0
  let v ← inLoad
  stageStore v
  inStart i c h1 (up d) 1
  outStart d 0

/-- A later piece: the write of the piece before it is waited for between the load and the store. -/
def laterPiece (d : Fin 3) (k : Fin 8) : KProg F PUnit := do
  inWait i c h1 (up d) k
  let v ← inLoad
  outWait d (k - 1)
  stageStore v
  inStart i c h1 (nxtD (up d) k) (k + 1)
  outStart d k

/-- The device slab `d` goes to. -/
def sendTo : Fin 3 → Dev nD := ![⟨k0_dev4 c, k0_dev4_lt i c h1⟩, ⟨k0_dev5 c, k0_dev5_lt i c h1⟩, ⟨k0_dev6 c, k0_dev6_lt i c h1⟩]

/-- The remote copy of slab `d`. -/
def sendSlab (d : Fin 3) : KProg F PUnit :=
  Prog.lift (.enqueueDma (slabM d) (.remote (Dev.tc (sendTo i c h1 d)) (slotM (slotOf d)) (.dma (sendSem d))) (.dma (recvSem (slotOf d)))
    (((Memref.isWhole_whole main_v1_1).wordExact_slice rfl _ (words_slab d)).reshape _ _)
    (((Memref.isWhole_whole cc0_scratch0).wordExact_slice rfl _ (words_slot (slotOf d))).reshape _ _) ⟨⟨rfl, Or.inl rfl⟩, trivial⟩)

/-- Slab `d`: its eight pieces, then its copy to the device it is for. -/
def slab (d : Fin 3) : KProg F PUnit := do
  firstPiece i c h1 d
  laterPiece i c h1 d 1
  laterPiece i c h1 d 2
  laterPiece i c h1 d 3
  laterPiece i c h1 d 4
  laterPiece i c h1 d 5
  laterPiece i c h1 d 6
  laterPiece i c h1 d 7
  outWait d 7
  sendSlab i c h1 d

/-- Wait for, load and store a piece of the device's own slab. -/
def ownStore (k : Fin 8) : KProg F PUnit := do
  inWait i c h1 3 k
  let v ← inLoad
  let _ ← Prog.lift (.load (Memref.whole cc0_scratch0) (rOwn k).toLoadRect (View.loadsAt_vmem h_S1x256x2048))
  Prog.lift (.store (Memref.whole cc0_scratch0) (rOwn k) (k0_pay30 v) Finset.univ
    (View.stores_vmem h_S1x256x2048 ((Memref.isWhole_whole cc0_scratch0).storeExact_slice rfl _ (packed_own k)) (fun _ => rfl)) (.inl rfl))

/-- A piece of it with the next one's read started. -/
def ownPiece (k : Fin 8) : KProg F PUnit := do
  ownStore i c h1 k
  inStart i c h1 3 (k + 1)

/-- The device's own slab. -/
def ownSlab : KProg F PUnit := do
  ownPiece i c h1 0
  ownPiece i c h1 1
  ownPiece i c h1 2
  ownPiece i c h1 3
  ownPiece i c h1 4
  ownPiece i c h1 5
  ownPiece i c h1 6
  ownStore i c h1 7

/-- The peers told that this device is inside its kernel, and theirs waited for. -/
def meet : KProg F PUnit := do
  semSignalWord (⟨k0_dev1 c, k0_dev1_lt i c h1⟩ : Dev nD) barrier0 1#32
  semSignalWord (⟨k0_dev2 c, k0_dev2_lt i c h1⟩ : Dev nD) barrier0 1#32
  semSignalWord (⟨k0_dev3 c, k0_dev3_lt i c h1⟩ : Dev nD) barrier0 1#32
  semWaitWord barrier0 3#32

/-- The whole exchange. -/
def exchange : KProg F PUnit := do
  meet i c h1
  inStart i c h1 0 0
  slab i c h1 0
  slab i c h1 1
  slab i c h1 2
  ownSlab i c h1

set_option maxRecDepth 65536 in
/-- The printed exchange is the folded one. -/
theorem k0_part47_eq (v2 : BitVec 32) :
    k0_part47 (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 c v2 h1 = exchange i c h1 := rfl

end Text

end Cert.KernelIdeal.Exchange

end
-- ==== Proof.Step.lean ====
/-
  The text of a grid point, folded: the waits for the landed slots, the prefetch of the next point's tiles,
  the waits for this point's, four row tiles that differ in their offsets alone, the write-back, and at the last
  point the waits for what is still under way. `cc0_body_eq` says that this is the printed text.
-/
module

public import proofs.«01_k».proof.Proof.Exchange

@[expose] public section

noncomputable section

namespace Cert.KernelIdeal.Exchange

open Cert.KernelIdeal Cert.KernelIdeal.Gen
open Idealize.ShloMosaic Idealize.SL.Sem
open Idealize.ShloMosaic.TcCoe

variable {F : FTy → Type} [FloatOps F]

/-- A transfer semaphore out of a pair. -/
abbrev sem2 (b : DmaSems sig S2) (o : Fin 1 → Nat) (h : ∀ a, o a + S1.size a ≤ S2.size a) : DmaSem sig :=
  ((b.slice (Rect.unit (s := S2) o S1.size h)).squeeze S_ squeezes_S1_S_).sem

/-- The offset of a semaphore is within its pair. -/
abbrev InbSem (o : Fin 1 → Nat) : Prop := ∀ a, o a + S1.size a ≤ S2.size a
/-- The offsets of a tile are within the weights. -/
abbrev InbW (o : Fin 2 → Nat) : Prop := ∀ a, o a + S2048x512.size a ≤ S8192x4096.size a
/-- The offsets of a tile are within the result. -/
abbrev InbT (o : Fin 2 → Nat) : Prop := ∀ a, o a + S2048x512.size a ≤ S2048x4096.size a
/-- The offsets of a slot of a two-slot buffer are within it. -/
abbrev InbSlot (o : Fin 3 → Nat) : Prop := ∀ a, o a + S1x2048x512.size a ≤ S2x2048x512.size a

/-- A slot of the buffer of weight tiles. -/
abbrev wSlot (o : Fin 3 → Nat) (h : InbSlot o) : Memref sig .tc .vmem S2048x512 .f32 :=
  ((Memref.whole cc0_scratch1).slice (Rect.unit (s := S2x2048x512) o S1x2048x512.size h) (fun _ => rfl)).squeeze S2048x512 squeezes_S1x2048x512_S2048x512
/-- A slot of the buffer of accumulator tiles read back. -/
abbrev aSlot (o : Fin 3 → Nat) (h : InbSlot o) : Memref sig .tc .vmem S2048x512 .f32 :=
  ((Memref.whole cc0_scratch2).slice (Rect.unit (s := S2x2048x512) o S1x2048x512.size h) (fun _ => rfl)).squeeze S2048x512 squeezes_S1x2048x512_S2048x512
/-- A slot of the buffer of tiles computed. -/
abbrev oSlot (o : Fin 3 → Nat) (h : InbSlot o) : Memref sig .tc .vmem S2048x512 .f32 :=
  ((Memref.whole cc0_scratch3).slice (Rect.unit (s := S2x2048x512) o S1x2048x512.size h) (fun _ => rfl)).squeeze S2048x512 squeezes_S1x2048x512_S2048x512

/-- A tile of the weights. -/
abbrev wTile (o : Fin 2 → Nat) (h : InbW o) : Memref sig .tc .hbm S2048x512 .f32 :=
  (Memref.whole main_arg1).slice (Rect.unit (s := S8192x4096) o S2048x512.size h) (fun _ => rfl)
/-- A tile of the result. -/
abbrev oTile (o : Fin 2 → Nat) (h : InbT o) : Memref sig .tc .hbm S2048x512 .f32 :=
  (Memref.whole main_v1_0).slice (Rect.unit (s := S2048x4096) o S2048x512.size h) (fun _ => rfl)

/-- Start reading a weight tile into a slot. -/
def wStart (os : Fin 1 → Nat) (hs : InbSem os) (ob : Fin 3 → Nat) (hb : InbSlot ob) (ot : Fin 2 → Nat) (ht : InbW ot) : KProg F PUnit :=
  Prog.lift (.enqueueDma (wTile ot ht) (.here (wSlot ob hb)) (.dma (sem2 cc0_scratch9 os hs)) (View.wordExact_bits rfl)
    ((View.wordExact_bits rfl).reshape _ _) ⟨Or.inl rfl, trivial⟩)
/-- Wait for it. -/
def wWait (os : Fin 1 → Nat) (hs : InbSem os) (ob : Fin 3 → Nat) (hb : InbSlot ob) (ot : Fin 2 → Nat) (ht : InbW ot) : KProg F PUnit :=
  Prog.lift (.waitDma2 (sem2 cc0_scratch9 os hs) (wTile ot ht) (wSlot ob hb) (View.wordExact_bits rfl) ((View.wordExact_bits rfl).reshape _ _))
/-- Start reading an accumulator tile back into a slot. -/
def aStart (os : Fin 1 → Nat) (hs : InbSem os) (ob : Fin 3 → Nat) (hb : InbSlot ob) (ot : Fin 2 → Nat) (ht : InbT ot) : KProg F PUnit :=
  Prog.lift (.enqueueDma (oTile ot ht) (.here (aSlot ob hb)) (.dma (sem2 cc0_scratch10 os hs)) (View.wordExact_bits rfl)
    ((View.wordExact_bits rfl).reshape _ _) ⟨Or.inl rfl, trivial⟩)
/-- Wait for it. -/
def aWait (os : Fin 1 → Nat) (hs : InbSem os) (ob : Fin 3 → Nat) (hb : InbSlot ob) (ot : Fin 2 → Nat) (ht : InbT ot) : KProg F PUnit :=
  Prog.lift (.waitDma2 (sem2 cc0_scratch10 os hs) (oTile ot ht) (aSlot ob hb) (View.wordExact_bits rfl) ((View.wordExact_bits rfl).reshape _ _))
/-- Start writing a computed tile to the result. -/
def oStart (os : Fin 1 → Nat) (hs : InbSem os) (ob : Fin 3 → Nat) (hb : InbSlot ob) (ot : Fin 2 → Nat) (ht : InbT ot) : KProg F PUnit :=
  Prog.lift (.enqueueDma (oSlot ob hb) (.here (oTile ot ht)) (.dma (sem2 cc0_scratch11 os hs)) ((View.wordExact_bits rfl).reshape _ _)
    (View.wordExact_bits rfl) ⟨Or.inl rfl, trivial⟩)
/-- Wait for it. -/
def oWait (os : Fin 1 → Nat) (hs : InbSem os) (ob : Fin 3 → Nat) (hb : InbSlot ob) (ot : Fin 2 → Nat) (ht : InbT ot) : KProg F PUnit :=
  Prog.lift (.waitDma2 (sem2 cc0_scratch11 os hs) (oSlot ob hb) (oTile ot ht) ((View.wordExact_bits rfl).reshape _ _) (View.wordExact_bits rfl))

/-- Do it under a condition, then go on. -/
def doIf {α : Type _} (b : BitVec 1) (p : b = 1#1 → KProg F PUnit) (k : KProg F α) : KProg F α :=
  if h : b = 1#1 then (do p h; k) else k

/-- Wait for the landing in slot `s`. -/
def recvWait (s : Fin 4) : KProg F PUnit :=
  Prog.lift (.waitDma2 (recvSem s) (slotM s) (slotM s)
    (((Memref.isWhole_whole cc0_scratch0).wordExact_slice rfl _ (words_slot s)).reshape _ _)
    (((Memref.isWhole_whole cc0_scratch0).wordExact_slice rfl _ (words_slot s)).reshape _ _))

/-- Wait for the read-out of slab `d`. -/
def sendWait (d : Fin 3) : KProg F PUnit :=
  Prog.lift (.waitDma2 (sendSem d) (slotM (slotOf d)) (slabM d)
    (((Memref.isWhole_whole cc0_scratch0).wordExact_slice rfl _ (words_slot (slotOf d))).reshape _ _)
    (((Memref.isWhole_whole main_v1_1).wordExact_slice rfl _ (words_slab d)).reshape _ _))

/-- The condition of the wait for slot `s`: the first point of its round. -/
def recvCond (i : grid0.Coords) (s : BitVec 32) : BitVec 1 :=
  Scalar.cmpi .ne (Scalar.extui (Scalar.andi (Scalar.cmpi .eq (BitVec.ofNat 32 (i 0).val) s) (Scalar.cmpi .eq (BitVec.ofNat 32 (i 1).val) 0#32)) : BitVec 32) 0#32

/-- The offsets of a row tile of a slot are within the buffer. -/
abbrev InbRow (o : Fin 3 → Nat) : Prop := ∀ a, o a + S1x512x512.size a ≤ S2x2048x512.size a

/-- Load a row tile of what was read back. -/
def rowLoadA (o : Fin 3 → Nat) (h : InbRow o) : KProg F (Vec F S1x512x512 .f32) :=
  Prog.lift (.load (Memref.whole cc0_scratch2) (Rect.unit (s := S2x2048x512) o S1x512x512.size h).toLoadRect (View.loadsAt_vmem h_S1x512x512))

/-- Store a row tile of the result (the load before it is not used). -/
def rowStore (o : Fin 3 → Nat) (h : InbRow o) (v : Vec F S1x512x512 .f32) : KProg F PUnit := do
  let _ ← Prog.lift (.load (Memref.whole cc0_scratch3) (Rect.unit (s := S2x2048x512) o S1x512x512.size h).toLoadRect (View.loadsAt_vmem h_S1x512x512))
  Prog.lift (.store (Memref.whole cc0_scratch3) (Rect.unit (s := S2x2048x512) o S1x512x512.size h) v Finset.univ (View.stores_vmem_bits_univ h_S1x512x512 rfl) (.inl rfl))

/-- One row tile: the rows of the slot loaded, and by the round the product stored alone (the first), added to
    what was read back (the middle ones), or added and passed through the activation (the last). -/
def rowTile {α : Type _} (w : Vec F S1x2048x512 .f32) (ox : Fin 3 → Nat) (hx : ∀ a, ox a + S1x512x2048.size a ≤ S4x2048x2048.size a)
    (b₁ b₂ b₃ : BitVec 1) (o₁ o₂ o₃ : Fin 3 → Nat) (h₁ : b₁ = 1#1 → InbRow o₁) (h₂ : b₂ = 1#1 → InbRow o₂) (h₃ : b₃ = 1#1 → InbRow o₃)
    (k : KProg F α) : KProg F α := do
  let x ← Prog.lift (.load (Memref.whole cc0_scratch0) (Rect.unit (s := S4x2048x2048) ox S1x512x2048.size hx).toLoadRect (View.loadsAt_vmem h_S1x512x2048))
  doIf b₁ (fun h => rowStore o₁ (h₁ h) (k0_pay41 w x)) <|
    doIf b₂ (fun h => do
      let a ← rowLoadA o₂ (h₂ h)
      rowStore o₂ (h₂ h) (k0_pay42 w x a)) <|
    doIf b₃ (fun h => do
      let a ← rowLoadA o₃ (h₃ h)
      rowStore o₃ (h₃ h) (k0_pay43 w x a)) k

/-- The point's product, row tile by row tile. -/
def compute {α : Type _} (i : grid0.Coords) (k : KProg F α) : KProg F α := do
  let w ← Prog.lift (.load (Memref.whole cc0_scratch1) (Rect.unit (s := S2x2048x512) (k0_off18 i) S1x2048x512.size (k0_off18_inb i)).toLoadRect (View.loadsAt_vmem h_S1x2048x512))
  rowTile w (k0_off19 i) (k0_off19_inb i) (k0_cond9 i) (k0_cond10 i) (k0_cond11 i) (k0_off20 i) (k0_off21 i) (k0_off22 i) (k0_off20_inb i) (k0_off21_inb i) (k0_off22_inb i) <|
    rowTile w (k0_off23 i) (k0_off23_inb i) (k0_cond12 i) (k0_cond13 i) (k0_cond14 i) (k0_off24 i) (k0_off25 i) (k0_off26 i) (k0_off24_inb i) (k0_off25_inb i) (k0_off26_inb i) <|
    rowTile w (k0_off27 i) (k0_off27_inb i) (k0_cond15 i) (k0_cond16 i) (k0_cond17 i) (k0_off28 i) (k0_off29 i) (k0_off30 i) (k0_off28_inb i) (k0_off29_inb i) (k0_off30_inb i) <|
    rowTile w (k0_off31 i) (k0_off31_inb i) (k0_cond18 i) (k0_cond19 i) (k0_cond20 i) (k0_off32 i) (k0_off33 i) (k0_off34 i) (k0_off32_inb i) (k0_off33_inb i) (k0_off34_inb i) k

/-- What the first point does before the rest: the exchange, and the first weight tile's read started. -/
def opening {α : Type _} (i : grid0.Coords) (c : Dev nD) (k : KProg F α) : KProg F α :=
  doIf (k0_cond1 i) (fun h => do
    exchange i c h
    wStart ![0] inb_S2_S1_0 ![0, 0, 0] inb_S2x2048x512_S1x2048x512_0_0_0 (k0_off2 c) (k0_off2_inb i c h)) k

/-- The waits for the slots that have landed. -/
def recvWaits {α : Type _} (i : grid0.Coords) (k : KProg F α) : KProg F α :=
  doIf (recvCond i 1#32) (fun _ => recvWait 1) <| doIf (recvCond i 2#32) (fun _ => recvWait 2) <| doIf (recvCond i 3#32) (fun _ => recvWait 3) k

/-- The next point's tiles sent for. -/
def prefetch {α : Type _} (i : grid0.Coords) (c : Dev nD) (k : KProg F α) : KProg F α :=
  if h : k0_cond5 i = 1#1 then do
    wStart (k0_off3 i) (k0_off3_inb i h) (k0_off4 i) (k0_off4_inb i h) (k0_off5 i c) (k0_off5_inb i c h)
    doIf (k0_cond6 i) (fun h' =>
      aStart (k0_off6 i) (k0_off6_inb i h h') (k0_off7 i) (k0_off7_inb i h h') (k0_off8 i) (k0_off8_inb i h h')) k
  else k

/-- The waits before the point's product. -/
def waits {α : Type _} (i : grid0.Coords) (c : Dev nD) (k : KProg F α) : KProg F α :=
  doIf (k0_cond7 i) (fun h =>
    oWait (k0_off9 i) (k0_off9_inb i h) (k0_off11 i) (k0_off11_inb i h) (k0_off10 i) (k0_off10_inb i h)) <| do
  wWait (k0_off12 i) (k0_off12_inb i) (k0_off13 i) (k0_off13_inb i) (k0_off14 i c) (k0_off14_inb i c)
  doIf (k0_cond8 i) (fun h =>
    aWait (k0_off15 i) (k0_off15_inb i h) (k0_off16 i) (k0_off16_inb i h) (k0_off17 i) (k0_off17_inb i h)) k

/-- What the last point waits for after the rest: both writes of the result, the three read-outs. -/
def closing (i : grid0.Coords) : KProg F PUnit :=
  doIf (k0_cond21 i) (fun h => do
    oWait (k0_off36 i) (k0_off36_inb i h) (k0_off38 i) (k0_off38_inb i h) (k0_off37 i) (k0_off37_inb i h)
    oWait (k0_off39 i) (k0_off39_inb i h) (k0_off40 i) (k0_off40_inb i h) (k0_off37 i) (k0_off37_inb i h)
    sendWait 0
    sendWait 1
    sendWait 2) (pure ⟨⟩)

/-- A grid point. -/
def point (i : grid0.Coords) : KProg F PUnit := do
  let c ← Prog.lift .deviceId
  opening i c <| recvWaits i <| prefetch i c <| waits i c <| compute i <| do
  oStart (k0_off12 i) (k0_off12_inb i) (k0_off13 i) (k0_off13_inb i) (k0_off35 i) (k0_off35_inb i)
  closing i

section Parts

variable {α β : Type}

/-- What follows a conditional step follows it inside the fold. -/
theorem doIf_bind (b : BitVec 1) (p : b = 1#1 → KProg F PUnit) (k : KProg F α) (f : α → KProg F β) :
    (doIf b p k >>= f) = doIf b p (k >>= f) := by
  unfold doIf
  split
  · exact Prog.bind_assoc _ _ _
  · rfl

/-- A row tile followed by more text. -/
theorem rowTile_bind (w : Vec F S1x2048x512 .f32) (ox : Fin 3 → Nat) (hx) (b₁ b₂ b₃ : BitVec 1) (o₁ o₂ o₃ : Fin 3 → Nat) (h₁ h₂ h₃)
    (k : KProg F α) (f : α → KProg F β) :
    (rowTile w ox hx b₁ b₂ b₃ o₁ o₂ o₃ h₁ h₂ h₃ k >>= f) = rowTile w ox hx b₁ b₂ b₃ o₁ o₂ o₃ h₁ h₂ h₃ (k >>= f) := by
  unfold rowTile
  rw [Prog.bind_assoc]
  simp only [doIf_bind]

/-- The waits for landed slots followed by more text. -/
theorem recvWaits_bind (i : grid0.Coords) (k : KProg F α) (f : α → KProg F β) : (recvWaits i k >>= f) = recvWaits i (k >>= f) := by
  unfold recvWaits
  simp only [doIf_bind]

/-- The opening followed by more text. -/
theorem opening_bind (i : grid0.Coords) (c : Dev nD) (k : KProg F α) (f : α → KProg F β) : (opening i c k >>= f) = opening i c (k >>= f) := by
  unfold opening
  simp only [doIf_bind]

/-- The waits for tiles followed by more text. -/
theorem waits_bind (i : grid0.Coords) (c : Dev nD) (k : KProg F α) (f : α → KProg F β) : (waits i c k >>= f) = waits i c (k >>= f) := by
  unfold waits
  simp only [doIf_bind, Prog.bind_assoc]

/-- The prefetch followed by more text. -/
theorem prefetch_bind (i : grid0.Coords) (c : Dev nD) (k : KProg F α) (f : α → KProg F β) : (prefetch i c k >>= f) = prefetch i c (k >>= f) := by
  unfold prefetch
  split
  · rw [Prog.bind_assoc]
    simp only [doIf_bind]
  · rfl

variable (i : grid0.Coords)

set_option maxRecDepth 65536 in
/-- The first part: the device's number, the opening, the waits for the landings. -/
theorem part51_eq : ∃ a : Dev nD → Σ' (_ : BitVec 32) (_ : BitVec 32) (_ : Dev nD) (_ : BitVec 32) (_ : BitVec 32), BitVec 32, (∀ c, (a c).2.2.1 = c) ∧
    k0_part51 (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11
      = (do let c ← Prog.lift .deviceId; opening i c (recvWaits i (pure (a c)))) :=
  ⟨fun c =>
    let v2 : BitVec 32 := Scalar.remsi (Scalar.divsi (Dev.word c) 1#32) 4#32
    let v4 : BitVec 32 := Scalar.addi (Scalar.muli (BitVec.ofNat 32 (i 0).val) 8#32) (BitVec.ofNat 32 (i 1).val)
    let v6 : BitVec 32 := Scalar.select (Scalar.cmpi .eq 2#32 0#32) 1#32 2#32
    let v7 : BitVec 32 := Scalar.remsi v4 v6
    ⟨BitVec.ofNat 32 (i 0).val, BitVec.ofNat 32 (i 1).val, c, v2, v4,
      Scalar.select (Scalar.andi (Scalar.xori (Scalar.cmpi .slt v7 0#32) (Scalar.cmpi .slt v6 0#32)) (Scalar.cmpi .ne v7 0#32)) (Scalar.addi v7 v6) v7⟩,
    fun _ => rfl, by
      rw [k0_part51_eq_skeleton]
      unfold k0_part51_skel
      simp -zeta only [k0_part47_eq]
      rfl⟩

set_option maxRecDepth 65536 in
/-- The second part: the prefetch and the waits before the product. -/
theorem part52_eq (a0 a1 : BitVec 32) (c : Dev nD) (a3 a4 : BitVec 32) :
    k0_part52 (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 a0 a1 c a3 a4 = prefetch i c (waits i c (pure ⟨⟩)) := rfl

/-- The second row tile up to its last case. -/
def half (w : Vec F S1x2048x512 .f32) (k : Vec F S1x512x2048 .bf16 → KProg F α) : KProg F α := do
  let x ← Prog.lift (.load (Memref.whole cc0_scratch0) (Rect.unit (s := S4x2048x2048) (k0_off23 i) S1x512x2048.size (k0_off23_inb i)).toLoadRect (View.loadsAt_vmem h_S1x512x2048))
  doIf (k0_cond12 i) (fun h => rowStore (k0_off24 i) (k0_off24_inb i h) (k0_pay41 w x)) <|
    doIf (k0_cond13 i) (fun h => do
      let a ← rowLoadA (k0_off25 i) (k0_off25_inb i h)
      rowStore (k0_off25 i) (k0_off25_inb i h) (k0_pay42 w x a)) (k x)

/-- The first part of the product followed by more text. -/
theorem half_bind (w : Vec F S1x2048x512 .f32) (k : Vec F S1x512x2048 .bf16 → KProg F α) (f : α → KProg F β) :
    (half i w k >>= f) = half i w (fun x => k x >>= f) := by
  unfold half
  rw [Prog.bind_assoc]
  simp only [doIf_bind]

set_option maxRecDepth 65536 in
/-- The third part: the weight tile loaded, the first row tile, and the second up to its last case. -/
theorem part53_eq (a0 a1 : BitVec 32) : ∃ e : BitVec 32,
    k0_part53 (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 a0 a1
      = (do
        let w ← Prog.lift (.load (Memref.whole cc0_scratch1) (Rect.unit (s := S2x2048x512) (k0_off18 i) S1x2048x512.size (k0_off18_inb i)).toLoadRect (View.loadsAt_vmem h_S1x2048x512))
        rowTile w (k0_off19 i) (k0_off19_inb i) (k0_cond9 i) (k0_cond10 i) (k0_cond11 i) (k0_off20 i) (k0_off21 i) (k0_off22 i) (k0_off20_inb i) (k0_off21_inb i) (k0_off22_inb i) <|
          half i w fun x => pure ⟨k0_pay39 w, k0_pay44 w x, e, 0#32⟩) := ⟨_, rfl⟩

set_option maxRecDepth 65536 in
/-- The fourth part, after the third's values: the second row tile's last case and the other two row tiles. -/
theorem part54_eq (w : Vec F S1x2048x512 .f32) (x : Vec F S1x512x2048 .bf16) (a0 a1 a2 a5 a6 : BitVec 32) :
    k0_part54 (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 a0 a1 a2 (k0_pay39 w) (k0_pay44 w x) a5 a6
      = (doIf (k0_cond14 i) (fun h => do
          let a ← rowLoadA (k0_off26 i) (k0_off26_inb i h)
          rowStore (k0_off26 i) (k0_off26_inb i h) (k0_pay43 w x a)) <|
        rowTile w (k0_off27 i) (k0_off27_inb i) (k0_cond15 i) (k0_cond16 i) (k0_cond17 i) (k0_off28 i) (k0_off29 i) (k0_off30 i) (k0_off28_inb i) (k0_off29_inb i) (k0_off30_inb i) <|
        rowTile w (k0_off31 i) (k0_off31_inb i) (k0_cond18 i) (k0_cond19 i) (k0_cond20 i) (k0_off32 i) (k0_off33 i) (k0_off34 i) (k0_off32_inb i) (k0_off33_inb i) (k0_off34_inb i) (pure ⟨⟩)) := rfl

set_option maxRecDepth 65536 in
/-- The body: its four parts, the write-back, the closing waits. -/
theorem body_parts : cc0_body (F := F) i (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
    = (do
      let r ← k0_part51 (F := F) i (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      k0_part52 (F := F) i (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 r.1 r.2.1 r.2.2.1 r.2.2.2.1 r.2.2.2.2.1
      let s ← k0_part53 (F := F) i (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 r.1 r.2.2.2.2.2
      k0_part54 (F := F) i (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 r.1 r.2.1 r.2.2.2.2.2 s.1 s.2.1 s.2.2.1 s.2.2.2
      oStart (k0_off12 i) (k0_off12_inb i) (k0_off13 i) (k0_off13_inb i) (k0_off35 i) (k0_off35_inb i)
      closing i) := rfl

/-- The printed body is the folded one. -/
theorem cc0_body_eq : cc0_body (F := F) i (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 = point i := by
  rw [body_parts]
  obtain ⟨a, ha, h51⟩ := part51_eq (F := F) i
  rw [h51]
  unfold point
  rw [Prog.bind_assoc]
  refine congrArg _ (funext fun c => ?_)
  rw [opening_bind, recvWaits_bind]
  obtain ⟨e, h53⟩ := part53_eq (F := F) i (a c).1 (a c).2.2.2.2.2
  simp only [Prog.pure_eq_ret, Prog.bind_ret, part52_eq, h53, ha]
  rw [prefetch_bind, waits_bind]
  simp only [Prog.pure_eq_ret, Prog.bind_ret]
  unfold compute
  simp only [Prog.bind_assoc, rowTile_bind, half_bind, Prog.pure_eq_ret, Prog.bind_ret, part54_eq, doIf_bind]
  rfl

end Parts

end Cert.KernelIdeal.Exchange

end
-- ==== Proof.Contents.lean ====
/-
  What the buffers hold, as functions of the arguments alone, and the regions that the transfers and the loads
  work on, each with the closed form of its offsets.
-/
module

public import proofs.«01_k».proof.Proof.Step
public import Idealize.ShloMosaic.Lib.ValueLayout

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx

variable {F : FTy → Type} [FloatOps F]

variable (m : (ℓ : Loc nD τ sig) → Buf (Elt F) ℓ)

/-- Device `c`'s columns of `x`. -/
def xv (c : Dev nD) : S8192x2048.Idx → Elt F .f32 := m ((c : Thread nD τ).loc main_arg0)
/-- Device `c`'s copy of the weights. -/
def wv (c : Dev nD) : S8192x4096.Idx → Elt F .f32 := m ((c : Thread nD τ).loc main_arg1)
/-- What the result's buffer holds at launch. -/
def ov (c : Dev nD) : S2048x4096.Idx → Elt F .f32 := m ((c : Thread nD τ).loc main_v1_0)

/-- Row `a` of block `p` of 2048 rows. -/
def rowP (p : Fin 4) (a : Fin 2048) : Fin 8192 := ⟨2048 * p.val + a.val, by omega⟩
/-- Column `b` of tile `n` of 512 columns. -/
def colP (n : Fin 8) (b : Fin 512) : Fin 4096 := ⟨512 * n.val + b.val, by omega⟩
/-- Row `a` of row tile `q` of 512 rows. -/
def rowQ (q : Fin 4) (a : Fin 512) : Fin 2048 := ⟨512 * q.val + a.val, by omega⟩
/-- Row `a` of piece `k` of 256 rows. -/
def rowK (k : Fin 8) (a : Fin 256) : Fin 2048 := ⟨256 * k.val + a.val, by omega⟩

/-- The word that round `k` of the product adds to a device's own number: the device whose columns of `x` it reads. -/
def ofs : Fin 4 → Fin 4 := ![0, 1, 3, 2]

/-- The device that a slab goes to reads it in the round whose offset leads back to the sender. -/
theorem sendTo_slot (c : Dev nD) (d : Fin 3) : c + offW (up d) + ofs (slotOf d) = c := by revert c d; decide

/-- Block `p` of device `c`'s columns of `x`, converted. -/
def xcol (c p : Dev nD) : S2048x2048.Idx → Elt F .bf16 :=
  fun y => FloatOps.truncf .bf16 bitsLt_bf16_f32 (xv m c (ix2 (rowP p (y 0)) (y 1)))

/-- What the three slabs hold once converted: slab `d`, the block for the device it goes to. -/
def x16G (c : Dev nD) : S3x2048x2048.Idx → Elt F .bf16 := fun x => xcol m c (c + offW (up (x 0))) (ix2 (x 1) (x 2))

/-- What the communication buffer holds once all has landed: slot `s`, this device's block of the columns of the device
    `ofs s` further on. -/
def commG (c : Dev nD) : S4x2048x2048.Idx → Elt F .bf16 := fun x => xcol m (c + ofs (x 0)) c (ix2 (x 1) (x 2))

/-- The rows of `x` that piece `k` of slab `d` reads. -/
def cX (c : Dev nD) (d : Fin 4) (k : Fin 8) : S256x2048.Idx → Elt F .f32 :=
  fun y => xv m c (ix2 (rowP (c + offW d) (rowK k (y 0))) (y 1))

/-- The weight tile of round `k`, column tile `n`. -/
def wtile (c : Dev nD) (k : Fin 4) (n : Fin 8) : S2048x512.Idx → Elt F .f32 :=
  fun y => wv m c (ix2 (rowP (c + ofs k) (y 0)) (colP n (y 1)))

/-- Column tile `n` of a result. -/
def tv {α : Type} (f : S2048x4096.Idx → α) (n : Fin 8) : S2048x512.Idx → α := fun y => f (ix2 (y 0) (colP n (y 1)))

/-- A buffer of two slots, with the same tile in both. -/
def slotC {α : Type} (v : S2048x512.Idx → α) : S2x2048x512.Idx → α := fun x => v (ix2 (x 1) (x 2))

/-- A tile as the load of its slot gives it. -/
def ld {α : Type} (v : S2048x512.Idx → α) : S1x2048x512.Idx → α := fun y => v (ix2 (y 1) (y 2))

/-- Row tile `q` of a tile, as the load gives it. -/
def rt {α : Type} (v : S2048x512.Idx → α) (q : Fin 4) : S1x512x512.Idx → α := fun y => v (ix2 (rowQ q (y 1)) (y 2))

/-- Row tile `q` of slot `k`, as the load gives it. -/
def xt (c : Dev nD) (k q : Fin 4) : S1x512x2048.Idx → Elt F .bf16 := fun y => commG m c (ix3 k (rowQ q (y 1)) (y 2))

/-- What round `k` stores of a row tile. -/
def stepv (k : ℕ) (w : Vec F S1x2048x512 .f32) (x : Vec F S1x512x2048 .bf16) (a : Vec F S1x512x512 .f32) : Vec F S1x512x512 .f32 :=
  if k = 0 then k0_pay41 w x else if k = 3 then k0_pay43 w x a else k0_pay42 w x a

/-- A number, as a round. -/
def rnd (k : ℕ) : Fin 4 := ⟨k % 4, Nat.mod_lt _ (by decide)⟩
/-- A number, as a column tile. -/
def ctl (n : ℕ) : Fin 8 := ⟨n % 8, Nat.mod_lt _ (by decide)⟩

/-- The tile that round `k` makes of a tile. -/
def tstep (c : Dev nD) (k : ℕ) (n : Fin 8) (a : S2048x512.Idx → Elt F .f32) : S2048x512.Idx → Elt F .f32 := fun y =>
  stepv k (ld (wtile m c (rnd k) n)) (xt m c (rnd k) ⟨(y 0).val / 512, by have := (y 0).isLt; show _ < 4; change (y 0).val < 2048 at this; omega⟩)
    (rt a ⟨(y 0).val / 512, by have := (y 0).isLt; change (y 0).val < 2048 at this; omega⟩) (ix3 0 ⟨(y 0).val % 512, Nat.mod_lt _ (by decide)⟩ (y 1))

/-- What tile `n` of the result holds after `k` rounds. -/
def accT (c : Dev nD) (n : Fin 8) : ℕ → S2048x512.Idx → Elt F .f32
  | 0 => tv (ov m c) n
  | k + 1 => tstep m c k n (accT c n k)

/-- What the result holds after `k` rounds. -/
def accN (c : Dev nD) (k : ℕ) : S2048x4096.Idx → Elt F .f32 := fun x =>
  accT m c ⟨(x 1).val / 512, by have := (x 1).isLt; change (x 1).val < 4096 at this; omega⟩ k (ix2 (x 0) ⟨(x 1).val % 512, Nat.mod_lt _ (by decide)⟩)

omit [FloatOps F] in
theorem ix2_ext {n0 n1 : ℕ} {a a' : Fin n0} {b b' : Fin n1} (h : a.val = a'.val) (h' : b.val = b'.val) : ix2 a b = ix2 a' b' := by
  rw [Fin.ext h, Fin.ext h']

/-- A column tile of the whole result is what the tile holds. -/
theorem tv_accN (c : Dev nD) (k : ℕ) (n : Fin 8) : tv (accN m c k) n = accT m c n k := by
  funext y
  have h1 : (y 1).val < 512 := (y 1).isLt
  have hn : (⟨(colP n (y 1)).val / 512, by have := (colP n (y 1)).isLt; omega⟩ : Fin 8) = n := Fin.ext (by
    show (512 * n.val + (y 1).val) / 512 = n.val
    omega)
  have hy : (ix2 (y 0) ⟨(colP n (y 1)).val % 512, Nat.mod_lt _ (by decide)⟩ : S2048x512.Idx) = y := by
    funext a
    match a with
    | ⟨0, _⟩ => rfl
    | ⟨1, _⟩ =>
      apply Fin.ext
      show (512 * n.val + (y 1).val) % 512 = (y 1).val
      omega
  show accT m c _ k _ = _
  refine Eq.trans ?_ (congrArg (accT m c n k) hy)
  exact congrArg (fun z => accT m c z k _) hn

/-! ## Regions -/

/-- Slot `p` of a buffer of two. -/
def slotS (p : Fin 2) : Finset S2x2048x512.Idx := Finset.univ.filter fun x => (x 0).val = p.val
/-- Column tile `n` of the result. -/
def tileS (n : Fin 8) : Finset S2048x4096.Idx := Finset.univ.filter fun x => (x 1).val / 512 = n.val
/-- Slab `d` of the three. -/
def slabS (d : Fin 3) : Finset S3x2048x2048.Idx := Finset.univ.filter fun x => (x 0).val = d.val
/-- Slot `s` of the communication buffer. -/
def commS (s : Fin 4) : Finset S4x2048x2048.Idx := Finset.univ.filter fun x => (x 0).val = s.val

end Cert.KernelIdeal.Exchange

end
-- ==== Proof.Views.lean ====
/-
  The views of the program's transfers, loads and stores, read as the functions and regions of Contents.lean.
-/
module

public import proofs.«01_k».proof.Proof.Contents

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx

variable {F : FTy → Type}

/-- An index is its two coordinates. -/
theorem eta2 {n0 n1 : ℕ} (y : (⟨2, ![n0, n1]⟩ : Shape).Idx) : ix2 (y 0) (y 1) = y := by
  funext a
  match a with
  | ⟨0, _⟩ => rfl
  | ⟨1, _⟩ => rfl

/-- An index is its three coordinates. -/
theorem eta3 {n0 n1 n2 : ℕ} (y : (⟨3, ![n0, n1, n2]⟩ : Shape).Idx) : ix3 (y 0) (y 1) (y 2) = y := by
  funext a
  match a with
  | ⟨0, _⟩ => rfl
  | ⟨1, _⟩ => rfl
  | ⟨2, _⟩ => rfl

/-- Two indices of three equal coordinates are equal. -/
theorem idx3_ext {n0 n1 n2 : ℕ} {x y : (⟨3, ![n0, n1, n2]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- Two indices of two equal coordinates are equal. -/
theorem idx2_ext {n0 n1 : ℕ} {x y : (⟨2, ![n0, n1]⟩ : Shape).Idx} (h0 : (x 0).val = (y 0).val) (h1 : (x 1).val = (y 1).val) : x = y := by
  funext a
  match a with
  | ⟨0, _⟩ => exact Fin.ext h0
  | ⟨1, _⟩ => exact Fin.ext h1

/-- Every index is given by two coordinates. -/
theorem ex2 {n0 n1 : ℕ} (y : (⟨2, ![n0, n1]⟩ : Shape).Idx) : ∃ (a : Fin n0) (b : Fin n1), y = ix2 a b := ⟨y 0, y 1, (eta2 y).symm⟩

/-- Every index is given by three coordinates. -/
theorem ex3 {n0 n1 n2 : ℕ} (y : (⟨3, ![n0, n1, n2]⟩ : Shape).Idx) : ∃ (a : Fin n0) (b : Fin n1) (c : Fin n2), y = ix3 a b c :=
  ⟨y 0, y 1, y 2, (eta3 y).symm⟩

/-- Where the elements of a plane of rows and columns, cut out of an array of three axes, lie. -/
theorem emb_sq {A B C M N : ℕ} (o : Fin 3 → ℕ) (inb : ∀ a, o a + (⟨3, ![1, M, N]⟩ : Shape).size a ≤ (⟨3, ![A, B, C]⟩ : Shape).size a)
    (h : (⟨2, ![M, N]⟩ : Shape).numel = (⟨3, ![1, M, N]⟩ : Shape).numel) (a : Fin M) (b : Fin N) (z : (⟨3, ![A, B, C]⟩ : Shape).Idx)
    (h0 : (z 0).val = o 0) (h1 : (z 1).val = o 1 + a.val) (h2 : (z 2).val = o 2 + b.val) :
    (Rect.unit (s := ⟨3, ![A, B, C]⟩) o (⟨3, ![1, M, N]⟩ : Shape).size inb).emb (Shape.reshapeEquiv h (ix2 a b)) = z := by
  rw [reshapeEquiv_ix2_1ab]
  apply idx3_ext
  · rw [h0]; show o 0 + 1 * 0 = o 0; omega
  · rw [h1]; show o 1 + 1 * a.val = _; omega
  · rw [h2]; show o 2 + 1 * b.val = _; omega

/-- Where the elements of a box of one plane lie. -/
theorem emb_box {A B C M N : ℕ} (o : Fin 3 → ℕ) (inb : ∀ a, o a + (⟨3, ![1, M, N]⟩ : Shape).size a ≤ (⟨3, ![A, B, C]⟩ : Shape).size a)
    (y : (⟨3, ![1, M, N]⟩ : Shape).Idx) (z : (⟨3, ![A, B, C]⟩ : Shape).Idx)
    (h0 : (z 0).val = o 0) (h1 : (z 1).val = o 1 + (y 1).val) (h2 : (z 2).val = o 2 + (y 2).val) :
    (Rect.unit (s := ⟨3, ![A, B, C]⟩) o (⟨3, ![1, M, N]⟩ : Shape).size inb).emb y = z := by
  have hy : (y 0).val = 0 := by have := (y 0).isLt; change (y 0).val < 1 at this; omega
  apply idx3_ext
  · rw [h0]; show o 0 + 1 * (y 0).val = o 0; omega
  · rw [h1]; show o 1 + 1 * (y 1).val = _; omega
  · rw [h2]; show o 2 + 1 * (y 2).val = _; omega

/-- Which elements a box of one plane has. -/
theorem mem_box {A B C M N : ℕ} (o : Fin 3 → ℕ) (inb : ∀ a, o a + (⟨3, ![1, M, N]⟩ : Shape).size a ≤ (⟨3, ![A, B, C]⟩ : Shape).size a)
    (i : (⟨3, ![A, B, C]⟩ : Shape).Idx) :
    i ∈ (Rect.unit (s := ⟨3, ![A, B, C]⟩) o (⟨3, ![1, M, N]⟩ : Shape).size inb).set
      ↔ (i 0).val = o 0 ∧ (o 1 ≤ (i 1).val ∧ (i 1).val < o 1 + M) ∧ o 2 ≤ (i 2).val ∧ (i 2).val < o 2 + N := by
  rw [Rect.mem_set_unit]
  constructor
  · intro h
    have h0 := h 0; have h1 := h 1; have h2 := h 2
    change o 0 ≤ (i 0).val ∧ (i 0).val < o 0 + 1 at h0
    exact ⟨by omega, h1, h2⟩
  · rintro ⟨h0, h1, h2⟩ a
    match a with
    | ⟨0, _⟩ => show o 0 ≤ (i 0).val ∧ (i 0).val < o 0 + 1; omega
    | ⟨1, _⟩ => exact h1
    | ⟨2, _⟩ => exact h2

/-! ## Pieces of the exchange -/

/-- The entries of a slab. -/
theorem slab_set (d : Fin 3) : (slabM d).view.set = slabS d := by
  have h : (slabM d).view.set = (Rect.unit (s := S3x2048x2048) ![d.val, 0, 0] S1x2048x2048.size (inb_slab d)).set := by simp
  rw [h]
  ext i
  refine (mem_box _ _ i).trans ?_
  have h1 : (i 1).val < 2048 := (i 1).isLt
  have h2 : (i 2).val < 2048 := (i 2).isLt
  simp only [slabS, Finset.mem_filter, Finset.mem_univ, true_and]
  show (i 0).val = d.val ∧ (0 ≤ (i 1).val ∧ (i 1).val < 0 + 2048) ∧ 0 ≤ (i 2).val ∧ (i 2).val < 0 + 2048 ↔ _
  omega

/-- What is read of a slab. -/
theorem slab_read (d : Fin 3) (f : S3x2048x2048.Idx → Elt F .bf16) : (slabM d).view.read (Elt F) f = fun y => f (ix3 d (y 0) (y 1)) := by
  funext y
  obtain ⟨a, b, rfl⟩ := ex2 (n0 := 2048) (n1 := 2048) y
  exact congrArg f (emb_sq ![d.val, 0, 0] (inb_slab d) _ a b (ix3 d a b) rfl (Nat.zero_add a.val).symm (Nat.zero_add b.val).symm)

/-- The entries of a slot. -/
theorem slotM_set (s : Fin 4) : (slotM s).view.set = commS s := by
  have h : (slotM s).view.set = (Rect.unit (s := S4x2048x2048) ![s.val, 0, 0] S1x2048x2048.size (inb_slot s)).set := by simp
  rw [h]
  ext i
  refine (mem_box _ _ i).trans ?_
  have h1 : (i 1).val < 2048 := (i 1).isLt
  have h2 : (i 2).val < 2048 := (i 2).isLt
  simp only [commS, Finset.mem_filter, Finset.mem_univ, true_and]
  show (i 0).val = s.val ∧ (0 ≤ (i 1).val ∧ (i 1).val < 0 + 2048) ∧ 0 ≤ (i 2).val ∧ (i 2).val < 0 + 2048 ↔ _
  omega

/-- What is read of a slot. -/
theorem slotM_read (s : Fin 4) (f : S4x2048x2048.Idx → Elt F .bf16) : (slotM s).view.read (Elt F) f = fun y => f (ix3 s (y 0) (y 1)) := by
  funext y
  obtain ⟨a, b, rfl⟩ := ex2 (n0 := 2048) (n1 := 2048) y
  exact congrArg f (emb_sq ![s.val, 0, 0] (inb_slot s) _ a b (ix3 s a b) rfl (Nat.zero_add a.val).symm (Nat.zero_add b.val).symm)

/-- Which entries a piece of a slab has. -/
theorem conv_mem (d : Fin 3) (k : Fin 8) (i : S3x2048x2048.Idx) :
    i ∈ (convDst d k).view.set ↔ (i 0).val = d.val ∧ 256 * k.val ≤ (i 1).val ∧ (i 1).val < 256 * k.val + 256 := by
  have h : (convDst d k).view.set = (Rect.unit (s := S3x2048x2048) ![d.val, 256 * k.val, 0] S1x256x2048.size (inb_conv d k)).set := by simp
  rw [h]
  refine (mem_box _ _ i).trans ?_
  have h2 : (i 2).val < 2048 := (i 2).isLt
  show (i 0).val = d.val ∧ (256 * k.val ≤ (i 1).val ∧ (i 1).val < 256 * k.val + 256) ∧ 0 ≤ (i 2).val ∧ (i 2).val < 0 + 2048 ↔ _
  omega

/-- A piece is inside its slab. -/
theorem conv_sub (d : Fin 3) (k : Fin 8) : (convDst d k).view.set ⊆ slabS d := fun i hi => by
  have := (conv_mem d k i).mp hi
  simp only [slabS, Finset.mem_filter, Finset.mem_univ, true_and]
  exact this.1

/-- What is read of a piece. -/
theorem conv_read (d : Fin 3) (k : Fin 8) (f : S3x2048x2048.Idx → Elt F .bf16) :
    (convDst d k).view.read (Elt F) f = fun y => f (ix3 d (rowK k (y 0)) (y 1)) := by
  funext y
  obtain ⟨a, b, rfl⟩ := ex2 (n0 := 256) (n1 := 2048) y
  exact congrArg f (emb_sq ![d.val, 256 * k.val, 0] (inb_conv d k) _ a b (ix3 d (rowK k a) b) rfl rfl (Nat.zero_add b.val).symm)

/-- Where a piece of `x` begins. -/
theorem off1_eq (c : Dev nD) (d : Fin 4) (k : Fin 8) :
    k0_off1 c (BitVec.ofNat 32 (offW d).val) (BitVec.ofNat 32 (256 * k.val)) = ![2048 * (c + offW d).val + 256 * k.val, 0] := by
  revert c d k; decide

/-- What is read of a piece of `x`. -/
theorem inSrc_read (i : grid0.Coords) (c : Dev nD) (h1 : k0_cond1 i = 1#1) (d : Fin 4) (k : Fin 8) (f : S8192x2048.Idx → Elt F .f32) :
    (inSrc i c h1 d k).view.read (Elt F) f = fun y => f (ix2 (rowP (c + offW d) (rowK k (y 0))) (y 1)) := by
  funext y
  refine congrArg f (idx2_ext ?_ ?_)
  · show k0_off1 c (BitVec.ofNat 32 (offW d).val) (BitVec.ofNat 32 (256 * k.val)) 0 + 1 * (y 0).val = _
    rw [off1_eq]
    show 2048 * (c + offW d).val + 256 * k.val + 1 * (y 0).val = 2048 * (c + offW d).val + (256 * k.val + (y 0).val)
    omega
  · show k0_off1 c (BitVec.ofNat 32 (offW d).val) (BitVec.ofNat 32 (256 * k.val)) 1 + 1 * (y 1).val = _
    rw [off1_eq]
    show 0 + 1 * (y 1).val = (y 1).val
    omega

/-! ## Tiles and slots of the grid points -/

/-- The entries of a weight slot. -/
theorem wSlot_set (o : Fin 3 → ℕ) (h : InbSlot o) (p : Fin 2) (ho : o = ![p.val, 0, 0]) : (wSlot o h).view.set = slotS p := by
  have h' : (wSlot o h).view.set = (Rect.unit (s := S2x2048x512) o S1x2048x512.size h).set := by simp
  rw [h']
  subst ho
  ext i
  refine (mem_box _ _ i).trans ?_
  have h1 : (i 1).val < 2048 := (i 1).isLt
  have h2 : (i 2).val < 512 := (i 2).isLt
  simp only [slotS, Finset.mem_filter, Finset.mem_univ, true_and]
  show (i 0).val = p.val ∧ (0 ≤ (i 1).val ∧ (i 1).val < 0 + 2048) ∧ 0 ≤ (i 2).val ∧ (i 2).val < 0 + 512 ↔ _
  omega

/-- The entries of an accumulator slot. -/
theorem aSlot_set (o : Fin 3 → ℕ) (h : InbSlot o) (p : Fin 2) (ho : o = ![p.val, 0, 0]) : (aSlot o h).view.set = slotS p :=
  (by simp : (aSlot o h).view.set = (Rect.unit (s := S2x2048x512) o S1x2048x512.size h).set).trans
    ((by simp : (wSlot o h).view.set = (Rect.unit (s := S2x2048x512) o S1x2048x512.size h).set).symm.trans (wSlot_set o h p ho))

/-- The entries of an output slot. -/
theorem oSlot_set (o : Fin 3 → ℕ) (h : InbSlot o) (p : Fin 2) (ho : o = ![p.val, 0, 0]) : (oSlot o h).view.set = slotS p :=
  (by simp : (oSlot o h).view.set = (Rect.unit (s := S2x2048x512) o S1x2048x512.size h).set).trans
    ((by simp : (wSlot o h).view.set = (Rect.unit (s := S2x2048x512) o S1x2048x512.size h).set).symm.trans (wSlot_set o h p ho))

/-- What is read of a weight slot. -/
theorem wSlot_read (o : Fin 3 → ℕ) (h : InbSlot o) (p : Fin 2) (ho : o = ![p.val, 0, 0]) (f : S2x2048x512.Idx → Elt F .f32) :
    (wSlot o h).view.read (Elt F) f = fun y => f (ix3 p (y 0) (y 1)) := by
  subst ho
  funext y
  obtain ⟨a, b, rfl⟩ := ex2 (n0 := 2048) (n1 := 512) y
  exact congrArg f (emb_sq ![p.val, 0, 0] h _ a b (ix3 p a b) rfl (Nat.zero_add a.val).symm (Nat.zero_add b.val).symm)

/-- What is read of an accumulator slot. -/
theorem aSlot_read (o : Fin 3 → ℕ) (h : InbSlot o) (p : Fin 2) (ho : o = ![p.val, 0, 0]) (f : S2x2048x512.Idx → Elt F .f32) :
    (aSlot o h).view.read (Elt F) f = fun y => f (ix3 p (y 0) (y 1)) := wSlot_read o h p ho f

/-- What is read of an output slot. -/
theorem oSlot_read (o : Fin 3 → ℕ) (h : InbSlot o) (p : Fin 2) (ho : o = ![p.val, 0, 0]) (f : S2x2048x512.Idx → Elt F .f32) :
    (oSlot o h).view.read (Elt F) f = fun y => f (ix3 p (y 0) (y 1)) := wSlot_read o h p ho f

/-- What is read of a weight tile. -/
theorem wTile_read (o : Fin 2 → ℕ) (h : InbW o) (p : Fin 4) (n : Fin 8) (ho : o = ![2048 * p.val, 512 * n.val]) (f : S8192x4096.Idx → Elt F .f32) :
    (wTile o h).view.read (Elt F) f = fun y => f (ix2 (rowP p (y 0)) (colP n (y 1))) := by
  subst ho
  funext y
  refine congrArg f (idx2_ext ?_ ?_)
  · show 2048 * p.val + 1 * (y 0).val = 2048 * p.val + (y 0).val
    omega
  · show 512 * n.val + 1 * (y 1).val = 512 * n.val + (y 1).val
    omega

/-- What is read of a tile of the result. -/
theorem oTile_read (o : Fin 2 → ℕ) (h : InbT o) (n : Fin 8) (ho : o = ![0, 512 * n.val]) (f : S2048x4096.Idx → Elt F .f32) :
    (oTile o h).view.read (Elt F) f = tv f n := by
  subst ho
  funext y
  refine congrArg f (idx2_ext ?_ ?_)
  · show 0 + 1 * (y 0).val = (y 0).val
    omega
  · show 512 * n.val + 1 * (y 1).val = 512 * n.val + (y 1).val
    omega

/-- The entries of a tile of the result. -/
theorem oTile_set (o : Fin 2 → ℕ) (h : InbT o) (n : Fin 8) (ho : o = ![0, 512 * n.val]) : (oTile o h).view.set = tileS n := by
  have h' : (oTile o h).view.set = (Rect.unit (s := S2048x4096) o S2048x512.size h).set := by simp
  rw [h']
  subst ho
  ext i
  rw [Rect.mem_set_unit]
  have h0 : (i 0).val < 2048 := (i 0).isLt
  simp only [tileS, Finset.mem_filter, Finset.mem_univ, true_and]
  constructor
  · intro hh
    have := hh 1
    change 512 * n.val ≤ (i 1).val ∧ (i 1).val < 512 * n.val + 512 at this
    omega
  · intro hh a
    match a with
    | ⟨0, _⟩ => show 0 ≤ (i 0).val ∧ (i 0).val < 0 + 2048; omega
    | ⟨1, _⟩ => show 512 * n.val ≤ (i 1).val ∧ (i 1).val < 512 * n.val + 512; omega

end Cert.KernelIdeal.Exchange

end
-- ==== Proof.Copy.lean ====
/-
  One local transfer, started and waited for. While it is under way it is `Fly c sm N P`: the transfer's flight, what
  the transfer does not touch kept beside it, and that both together are `P` once it has been waited for. `P` is stated in the
  terms of the proof (a region of the destination at the contents it will have, the source's region as it was), so
  that nothing of the transfer's own views is left in it.
-/
module

public import proofs.«01_k».proof.Proof.Step
public import Idealize.ShloMosaic.Lib.Pipeline.Kit
public import Idealize.ShloMosaic.Lib.Transfers

@[expose] public section

noncomputable section

namespace Cert.KernelIdeal.Exchange

open Cert.KernelIdeal Cert.KernelIdeal.Gen
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Transfers (Flight)

variable {F : FTy → Type} [FloatOps F]

/-- The ghost state: the pipeline library's, the cells that devices share (duties numbered 0, 1, 2), the local transfers'. -/
abbrev UX : Type := URounds (GSem nD τ sig) (Fin 3) × Counters
/-- The ghost state: the pipeline's, the rounds of the shared cells, and the counters. -/
abbrev UU : Type := UR sig nD τ × UX

local notation "𝕄" => MT nD τ sig Unit (Elt F) ℕ UU ℕ

/-- Where the pipeline's part of it sits. -/
abbrev EP : Emb (UR sig nD τ) (MT nD τ sig Unit (Elt F) ℕ UU ℕ) := embL
/-- Where the rounds' part sits. -/
abbrev ER : Emb (URounds (GSem nD τ sig) (Fin 3)) (MT nD τ sig Unit (Elt F) ℕ UU ℕ) := (Emb.inl).trans embR
/-- Where the counters' part sits. -/
abbrev EC : UEmb Counters (MT nD τ sig Unit (Elt F) ℕ UU ℕ) := countersEmb

/-- The counters' part can be stored in an invariant. -/
instance EC_lands : (EC (F := F)).LandsIn (upEmb : UEmb _ 𝕄) := by unfold EC; infer_instance
/-- The rounds' part can be stored in an invariant. -/
instance ER_lands : (ER (F := F)).LandsIn (upEmb : UEmb _ 𝕄) := by unfold ER; infer_instance

/-- No loop, so no variant. -/
abbrev 𝒱₀ : Variants := Variants.none

/-- A device's program under way. -/
abbrev wpc (c : Dev nD) {α : Type} (p : KProg F α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

/-- What device `c` owes, whatever it has waited for so far. -/
def owesX (c : Dev nD) (O : CellTallies nD τ sig Unit) : sProp 𝕄 := iprop(∃ W, owes (c : Thread nD τ) O W)

/-- A local transfer under way, which leaves `P`. -/
def Fly (c : Dev nD) (sm : SemLoc sig) (N : ℕ) (P : sProp 𝕄) : sProp 𝕄 :=
  iprop(∃ A B : sProp 𝕄, ⌜A ∗ B ⊢ P⌝ ∗ Flight EC (c : Thread nD τ) sm () N A ∗ B)

section

variable {α : Type}

/-- What a transfer's destination holds: where the transfer wrote, what it read, elsewhere what was there. -/
theorem write_eq_of {sp : Space} {s : Shape} {e : EltTy} (dst : Memref sig .tc sp s e) (fd G : dst.view.ty.Contents (Elt F))
    (v : s.Idx → Elt F e) (h₁ : dst.view.read (Elt F) G = v) {Sd : Finset dst.view.ty.Idx} (h₂ : ∀ i ∈ Sd, i ∉ dst.view.set → fd i = G i) :
    ∀ i ∈ Sd, dst.view.write (Elt F) fd v Finset.univ i = G i := by
  intro i hi
  subst h₁
  by_cases h : i ∈ dst.view.set
  · obtain ⟨x, -, rfl⟩ := Finset.mem_map.mp h
    have := congrFun (View.read_write_univ (Val := Elt F) (v := dst.view) fd (dst.view.read (Elt F) G)) x
    rw [View.read_apply, View.read_apply] at this
    exact (cast_inj _).mp this
  · rw [View.write_of_not_mem (v := dst.view) _ _ _ (by simpa [View.setOn, View.set] using h)]
    exact h₂ i hi h

/-- The library's rule for a transfer waited for, at this kernel's programs. -/
theorem wait_raw {Q : α → sProp 𝕄} (c : Dev nD) {sp sp' : Space} {s s' : Shape} {e e' : EltTy} {κ' : Kind} {sem : DmaSem sig}
    {srcw : Memref sig .tc sp' s' e'} {dstw : Memref sig κ' sp s e} {hsrc : srcw.view.WordExact} {hdst : dstw.view.WordExact}
    {k : PUnit → KProg F α} {N : ℕ} (hN : dstw.view.dmaCredit = N) {A : sProp 𝕄} {O : CellTallies nD τ sig Unit} {W : Waits sig Unit} :
    iprop(Flight EC (c : Thread nD τ) (.dma sem) () N A ∗ owes (c : Thread nD τ) O W ∗ MayWait (c : Thread nD τ) (.dma sem) () O)
      ⊢ iprop((iprop(A ∗ semVal ((c : Thread nD τ), .dma sem) 0 ∗ owes (c : Thread nD τ) O (insert (SemLoc.dma sem, ()) W)) -∗ wpc c (k ⟨⟩) Q)
          -∗ wpc c (.op (.waitDma2 sem srcw dstw hsrc hdst) k) Q) :=
  Transfers.wp_waitLocalO EC 𝒱₀ (c : Thread nD τ) none () hN

/-- A transfer started. -/
theorem start_copy {Q : α → sProp 𝕄} (c : Dev nD) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (τ := τ) sp sm (.here (p := (c : Thread nD τ).2) dst)}
    {k : PUnit → KProg F α} {q : PosShare TreeShare} {fs : Buf (Elt F) (src.view.loc (c : Thread nD τ))}
    {fd G : Buf (Elt F) (dst.view.loc (c : Thread nD τ))} {T : Finset (Idx (src.view.loc (c : Thread nD τ)))} {Sd : Finset (Idx (dst.view.loc (c : Thread nD τ)))}
    (N : ℕ) (hN : dst.view.amount sm = N) (hN0 : 0 < N) (hT : src.view.set ⊆ T) (hSd : dst.view.set ⊆ Sd)
    (h₁ : dst.view.read (Elt F) G = src.view.read (Elt F) fs) (h₂ : ∀ i ∈ Sd, i ∉ dst.view.set → fd i = G i) :
    iprop((src.view.loc (c : Thread nD τ) ↦[T]{q} fs) ∗ (dst.view.loc (c : Thread nD τ) ↦[Sd]{fullShare} fd) ∗ semVal ((c : Thread nD τ), sm) 0)
      ⊢ iprop((Fly c sm N iprop((dst.view.loc (c : Thread nD τ) ↦[Sd]{fullShare} G) ∗ (src.view.loc (c : Thread nD τ) ↦[T]{q} fs)) -∗ wpc c (k ⟨⟩) Q)
        -∗ wpc c (.op (.enqueueDma src (.here dst) sm hsrc hdst hsem) k) Q) := by
  iintro ⟨Hs, Hd, Hv⟩ Hk
  ihave Hss := (pointsTo_split_subset hT).1 $$ Hs
  icases Hss with ⟨Hs, Hr⟩
  iapply (Transfers.wp_dmaLocal EC 𝒱₀ (c : Thread nD τ) none () N hN hN0 hSd) $$ [Hs Hd Hv]
  · isplitl [Hs]; · iexact Hs
    isplitl [Hd] <;> iassumption
  iintro Hf
  iapply Hk
  unfold Fly
  iexists iprop((dst.view.loc (c : Thread nD τ) ↦[Sd]{fullShare} (dst.view.write (Elt F) fd (src.view.read (Elt F) fs) Finset.univ))
      ∗ (src.view.loc (c : Thread nD τ) ↦[src.view.set]{q} fs)),
    iprop(src.view.loc (c : Thread nD τ) ↦[T \ src.view.set]{q} fs)
  isplitr
  · ipureintro
    iintro ⟨⟨Hd, Hs⟩, Hr⟩
    isplitl [Hd]
    · iapply (Entails.of_eq (pointsTo_congr (write_eq_of dst fd G _ h₁ h₂))) $$ Hd
    iapply (pointsTo_split_subset (ℓ := src.view.loc (c : Thread nD τ)) hT).2
    isplitl [Hs] <;> iassumption
  isplitl [Hf]; · iexact Hf
  iexact Hr

/-- What it leaves, weakened. -/
theorem Fly_mono (c : Dev nD) (sm : SemLoc sig) (N : ℕ) {P P' : sProp 𝕄} (h : P ⊢ P') : Fly c sm N P ⊢ Fly c sm N P' := by
  unfold Fly
  iintro ⟨%A, %B, %hAB, Hf, HB⟩
  iexists A, B
  isplitr; · (ipureintro; exact hAB.trans h)
  isplitl [Hf] <;> iassumption

/-- A transfer waited for, by a device that may wait on its semaphore. -/
theorem wait_copy {Q : α → sProp 𝕄} (c : Dev nD) {sp sp' : Space} {s s' : Shape} {e e' : EltTy} {κ' : Kind} {sem : DmaSem sig}
    {srcw : Memref sig .tc sp' s' e'} {dstw : Memref sig κ' sp s e} {hsrc : srcw.view.WordExact} {hdst : dstw.view.WordExact}
    {k : PUnit → KProg F α} {N : ℕ} (hN : dstw.view.dmaCredit = N) {P : sProp 𝕄} {O : CellTallies nD τ sig Unit} :
    iprop(Fly c (.dma sem) N P ∗ owesX c O ∗ MayWait (c : Thread nD τ) (.dma sem) () O)
      ⊢ iprop(((P ∗ semVal ((c : Thread nD τ), .dma sem) 0 ∗ owesX c O) -∗ wpc c (k ⟨⟩) Q)
          -∗ wpc c (.op (.waitDma2 sem srcw dstw hsrc hdst) k) Q) := by
  unfold Fly owesX
  iintro ⟨⟨%A, %B, %hAB, Hf, HB⟩, ⟨%W, HO⟩, HM⟩ Hk
  iapply (wait_raw c hN) $$ [Hf HO HM]
  · isplitl [Hf]; · iexact Hf
    isplitl [HO] <;> iassumption
  iintro ⟨HA, Hv, HO⟩
  iapply Hk
  isplitl [HA HB]
  · iapply hAB
    isplitl [HA] <;> iassumption
  isplitl [Hv]; · iexact Hv
  iexists _
  iexact HO

/-- The same by a device that owes nothing. -/
theorem wait_copy0 {Q : α → sProp 𝕄} (c : Dev nD) {sp sp' : Space} {s s' : Shape} {e e' : EltTy} {κ' : Kind} {sem : DmaSem sig}
    {srcw : Memref sig .tc sp' s' e'} {dstw : Memref sig κ' sp s e} {hsrc : srcw.view.WordExact} {hdst : dstw.view.WordExact}
    {k : PUnit → KProg F α} {N : ℕ} (hN : dstw.view.dmaCredit = N) {P : sProp 𝕄} :
    iprop(Fly c (.dma sem) N P ∗ owesX c 0)
      ⊢ iprop(((P ∗ semVal ((c : Thread nD τ), .dma sem) 0 ∗ owesX c 0) -∗ wpc c (k ⟨⟩) Q)
          -∗ wpc c (.op (.waitDma2 sem srcw dstw hsrc hdst) k) Q) := by
  iintro ⟨Hf, HO⟩
  iapply (wait_copy c hN (O := 0)) $$ [Hf HO]
  isplitl [Hf]; · iexact Hf
  isplitl [HO]; · iexact HO
  rw [MayWait_zero]
  iempintro

end

end Cert.KernelIdeal.Exchange

end
-- ==== Proof.Proto.lean ====
/-
  The protocol of the devices. Three kinds of cells are shared between devices:

  * the barrier cell of a device has three duties of one unit. Duty `d` is paid by the device that slab `d` of this device is for;
    it hands over the slot of that device's communication buffer which the slab will land in;
  * the receive cell of a slot is credited once, by the copy that lands in it, and hands over the slot with its contents;
  * the send cell of a slab is credited once, when the slab has been read out, and hands the slab back.

  A device waits on its barrier cell while it owes the landings, so the receive cells are above the barrier cells; on
  its own transfers it waits at the lowest level.
-/
module

public import proofs.«01_k».proof.Proof.Views
public import proofs.«01_k».proof.Proof.Copy

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The cells -/

/-- The barrier cell of a device. -/
abbrev barCell (c : Dev nD) : GSem nD τ sig := ((c : Thread nD τ), .reg barrier0)
/-- The receive cell of a slot. -/
abbrev recvCell (c : Dev nD) (s : Fin 4) : GSem nD τ sig := ((c : Thread nD τ), .dma (recvSem s))
/-- The send cell of a slab. -/
abbrev sendCell (c : Dev nD) (d : Fin 3) : GSem nD τ sig := ((c : Thread nD τ), .dma (sendSem d))

/-- What a landing credits. -/
abbrev N : ℕ := (slotM 0).view.dmaCredit
/-- A landing credits something. -/
theorem N_pos : 0 < N := View.dmaCredit_pos _ (by decide)

/-- The word that leads from a device to the one whose slab `d` is for it. -/
def backW : Fin 3 → Fin 4 := ![3, 1, 2]

/-- There and back again. -/
theorem back_off (c : Dev nD) (d : Fin 3) : c + backW d + offW (up d) = c := by revert c d; decide
/-- Back and there again. -/
theorem off_back (c : Dev nD) (d : Fin 3) : c + offW (up d) + backW d = c := by revert c d; decide

/-- The number of a receive semaphore. -/
theorem recvSem_val (s : Fin 4) : (recvSem s).val = 3 + s.val := by revert s; decide
/-- The number of a send semaphore. -/
theorem sendSem_val (d : Fin 3) : (sendSem d).val = d.val := by revert d; decide
/-- The number of a semaphore of the conversion. -/
theorem convSem_val (s : Fin 3) : (convSem s).val = 7 + s.val := by revert s; decide

/-! ## The schedule -/

variable (m : (ℓ : Loc nD τ sig) → Buf (Elt F) ℓ)

/-- Slot `s` of device `c`'s communication buffer. -/
def commP (c : Dev nD) (s : Fin 4) (f : S4x2048x2048.Idx → Elt F .bf16) : sProp 𝕄 :=
  iprop((c : Thread nD τ).loc cc0_scratch0 ↦[commS s]{fullShare} f)
/-- Slab `d` of device `c`. -/
def slabP (c : Dev nD) (d : Fin 3) (f : S3x2048x2048.Idx → Elt F .bf16) : sProp 𝕄 :=
  iprop((c : Thread nD τ).loc main_v1_1 ↦[slabS d]{fullShare} f)

/-- A slot can be handed over through a cell. -/
instance commP_storable (c : Dev nD) (s f) : BI.Storable (upEmb : UEmb _ 𝕄) (commP (F := F) c s f) := by unfold commP; infer_instance
/-- A slab can be handed over through a cell. -/
instance slabP_storable (c : Dev nD) (d f) : BI.Storable (upEmb : UEmb _ 𝕄) (slabP (F := F) c d f) := by unfold slabP; infer_instance

/-- Duty `d` of the barrier hands over the slot that slab `d` will land in, and that its receive cell is at its start. -/
def barPay (c : Dev nD) (d : Fin 3) : sProp 𝕄 :=
  iprop((∃ f, commP (c + offW (up d)) (slotOf d) f) ∗ reached ER (recvCell (c + offW (up d)) (slotOf d)) 0)
/-- A landing hands over the slot with what has landed. -/
def recvPay (c : Dev nD) (s : Fin 4) : sProp 𝕄 := commP c s (commG m c)
/-- A read-out hands the slab back. -/
def sendPay (c : Dev nD) (d : Fin 3) : sProp 𝕄 := slabP c d (x16G m c)

/-- The one round. -/
def rd : Rounds.Schedule (GSem nD τ sig) (Fin 3) 𝕄 where
  duties g r := if r = 0 ∧ g.1.2 = .tc then (match g.2 with
    | .reg _ => Finset.univ
    | .dma k => if k.val < 7 ∧ k.val ≠ 3 then {0} else ∅) else ∅
  unitless _ := False
  amount g _ _ := match g.2 with | .reg _ => 1 | .dma _ => N
  payload g _ d := match g.2 with
    | .reg _ => barPay g.1.1 d
    | .dma k => if h : k.val < 3 then sendPay m g.1.1 ⟨k.val, h⟩ else if h : k.val < 7 then recvPay m g.1.1 ⟨k.val - 3, by omega⟩ else iprop(emp)
  amount_pos g _ _ _ := by
    match g.2 with
    | .reg _ => exact Nat.one_pos
    | .dma _ => exact N_pos

/-- Every payload can be handed over through a cell. -/
instance rd_payload_storable (g : GSem nD τ sig) (r : ℕ) (d : Fin 3) :
    BI.Storable (upEmb : UEmb _ 𝕄) ((rd (F := F) m).payload g r d) := by
  obtain ⟨⟨c, p⟩, sm⟩ := g
  match sm with
  | .reg _ => show BI.Storable upEmb (barPay c d); unfold barPay; infer_instance
  | .dma k =>
    show BI.Storable upEmb (if h : k.val < 3 then sendPay m c ⟨k.val, h⟩ else if h : k.val < 7 then recvPay m c ⟨k.val - 3, by omega⟩ else iprop(emp))
    unfold sendPay recvPay
    (repeat' split) <;> infer_instance

section Sched
variable (c : Dev nD)

/-- The barrier's three duties. -/
theorem duties_bar : (rd (F := F) m).duties (barCell c) 0 = Finset.univ := by dsimp only [rd]; exact if_pos ⟨rfl, rfl⟩
/-- A receive cell's one duty. -/
theorem duties_recv (s : Fin 4) (hs : s ≠ 0) : (rd (F := F) m).duties (recvCell c s) 0 = {0} := by
  dsimp only [rd]; rw [if_pos ⟨rfl, rfl⟩]
  exact if_pos (by rw [recvSem_val]; have := s.isLt; exact ⟨by omega, fun h => hs (Fin.ext (by show s.val = 0; omega))⟩)
/-- A send cell's one duty. -/
theorem duties_send (d : Fin 3) : (rd (F := F) m).duties (sendCell c d) 0 = {0} := by
  dsimp only [rd]; rw [if_pos ⟨rfl, rfl⟩]
  exact if_pos (by rw [sendSem_val]; have := d.isLt; exact ⟨by omega, by omega⟩)
/-- There is one round only. -/
theorem duties_later (g : GSem nD τ sig) : ∀ r, 1 ≤ r → (rd (F := F) m).duties g r = ∅ :=
  fun r hr => by dsimp only [rd]; rw [if_neg fun h => by omega]

/-- A signal pays one unit. -/
theorem amount_bar (d : Fin 3) : (rd (F := F) m).amount (barCell c) 0 d = 1 := rfl
/-- A landing pays its credit. -/
theorem amount_recv (s : Fin 4) (d : Fin 3) : (rd (F := F) m).amount (recvCell c s) 0 d = N := rfl
/-- A read-out pays its credit. -/
theorem amount_send (d d' : Fin 3) : (rd (F := F) m).amount (sendCell c d) 0 d' = N := rfl

/-- A barrier is complete at three units. -/
theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A receive cell is complete at one landing. -/
theorem expect_recv (s : Fin 4) (hs : s ≠ 0) : (rd (F := F) m).expect (recvCell c s) 0 = N := by
  unfold Schedule.expect Schedule.amountOf; rw [duties_recv m c s hs, Finset.sum_singleton, amount_recv]
/-- A send cell is complete at one read-out. -/
theorem expect_send (d : Fin 3) : (rd (F := F) m).expect (sendCell c d) 0 = N := by
  unfold Schedule.expect Schedule.amountOf; rw [duties_send, Finset.sum_singleton, amount_send]

/-- What a signal hands over. -/
theorem payload_bar (d : Fin 3) : (rd (F := F) m).payload (barCell c) 0 d = barPay c d := rfl
/-- What a landing hands over. -/
theorem payload_recv (s : Fin 4) (d : Fin 3) : (rd (F := F) m).payload (recvCell c s) 0 d = recvPay m c s := by
  dsimp only [rd]
  rw [dif_neg (by rw [recvSem_val]; omega), dif_pos (by rw [recvSem_val]; omega)]
  exact congrArg (recvPay m c) (Fin.ext (by show (recvSem s).val - 3 = s.val; rw [recvSem_val]; omega))
/-- What a read-out hands over. -/
theorem payload_send (d d' : Fin 3) : (rd (F := F) m).payload (sendCell c d) 0 d' = sendPay m c d := by
  dsimp only [rd]
  rw [dif_pos (by rw [sendSem_val]; exact d.isLt)]
  exact congrArg (sendPay m c) (Fin.ext (sendSem_val d))

/-- What the wait on the barrier is given. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
/-- What the wait for a landing is given. -/
theorem rest_recv (s : Fin 4) (hs : s ≠ 0) :
    bigSep ((rd (F := F) m).duties (recvCell c s) 0 \ ∅) (fun d => (rd (F := F) m).payload (recvCell c s) 0 d) = recvPay m c s := by
  rw [Finset.sdiff_empty, duties_recv m c s hs, bigSep_singleton, payload_recv]
/-- What the wait for a read-out is given. -/
theorem rest_send (d : Fin 3) :
    bigSep ((rd (F := F) m).duties (sendCell c d) 0 \ ∅) (fun d' => (rd (F := F) m).payload (sendCell c d) 0 d') = sendPay m c d := by
  rw [Finset.sdiff_empty, duties_send, bigSep_singleton, payload_send]

end Sched

/-! ## What a device owes; the levels -/

/-- The landing of slab `d`. -/
def oweR (c : Dev nD) (d : Fin 3) : CellTallies nD τ sig Unit := tallyAt (recvCell (c + offW (up d)) (slotOf d)) () N
/-- The signal of duty `d`. -/
def oweB (c : Dev nD) (d : Fin 3) : CellTallies nD τ sig Unit := tallyAt (barCell (c + backW d)) () 1

/-- The landings from slab `d` on. -/
def OR (c : Dev nD) : ℕ → CellTallies nD τ sig Unit
  | 0 => 0 + oweR c 2 + oweR c 1 + oweR c 0
  | 1 => 0 + oweR c 2 + oweR c 1
  | 2 => 0 + oweR c 2
  | _ => 0

/-- The landings from a slab on are that slab's and those from the next on. -/
theorem OR_step (c : Dev nD) (d : Fin 3) : OR c d.val = OR c (d.val + 1) + oweR c d := by
  match d with
  | ⟨0, _⟩ => rfl
  | ⟨1, _⟩ => rfl
  | ⟨2, _⟩ => rfl

/-- All that a device owes at launch: the landings, and the three signals, of which the first given is the last summand. -/
def O₀ (c : Dev nD) : CellTallies nD τ sig Unit := OR c 0 + oweB c 0 + oweB c 2 + oweB c 1

/-- The index at which a cell is owed. -/
def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma k => if 3 ≤ k.val ∧ k.val < 7 then 2 else 0

/-- Only the core's cells are owed. -/
theorem L_of_ne (g : GSem nD τ sig) (h : g.1.2 ≠ .tc) : L g = ∅ := if_neg h
/-- The core's cells have one index. -/
theorem L_tc (c : Dev nD) (sm : SemLoc sig) : L ((c : Thread nD τ), sm) = {()} := if_pos rfl
/-- The receive cells' level. -/
theorem lv_recv (c : Dev nD) (s : Fin 4) (u : Unit) : lv (recvCell c s) u = 2 := if_pos (by rw [recvSem_val]; omega)
/-- The barrier cells' level. -/
theorem lv_bar (c : Dev nD) (u : Unit) : lv (barCell c) u = 1 := rfl

/-- A single tally is positive at its own cell only. -/
theorem tally_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

/-- A positive sum has a positive summand. -/
theorem add_pos' {O O' : CellTallies nD τ sig Unit} {g : GSem nD τ sig} {u : Unit} (h : 0 < (O + O') g u) : 0 < O g u ∨ 0 < O' g u := by
  rw [Pi.add_apply, Finsupp.add_apply] at h
  omega

/-- The landings are owed on receive cells. -/
theorem OR_pos {c : Dev nD} {n : ℕ} {g : GSem nD τ sig} {u : Unit} (h : 0 < OR c n g u) : ∃ c' s, g = recvCell c' s := by
  have hz : ∀ {g u}, ¬ 0 < (0 : CellTallies nD τ sig Unit) g u := fun h => Nat.lt_irrefl 0 h
  have hr : ∀ {d}, 0 < oweR c d g u → ∃ c' s, g = recvCell c' s := fun h => ⟨_, _, tally_pos h⟩
  match n with
  | 0 => rcases add_pos' h with h | h
         · rcases add_pos' h with h | h
           · rcases add_pos' h with h | h
             · exact absurd h hz
             · exact hr h
           · exact hr h
         · exact hr h
  | 1 => rcases add_pos' h with h | h
         · rcases add_pos' h with h | h
           · exact absurd h hz
           · exact hr h
         · exact hr h
  | 2 => rcases add_pos' h with h | h
         · exact absurd h hz
         · exact hr h
  | n + 3 => exact absurd h hz

/-- What is owed at launch is owed on receive cells and barrier cells. -/
theorem O₀_pos {c : Dev nD} {g : GSem nD τ sig} {u : Unit} (h : 0 < O₀ c g u) : (∃ c' s, g = recvCell c' s) ∨ ∃ c', g = barCell c' := by
  rcases add_pos' h with h | h
  · rcases add_pos' h with h | h
    · rcases add_pos' h with h | h
      · exact .inl (OR_pos h)
      · exact .inr ⟨_, tally_pos h⟩
    · exact .inr ⟨_, tally_pos h⟩
  · exact .inr ⟨_, tally_pos h⟩

/-- A device may wait for its own transfers while it owes landings. -/
theorem mayWait_local (c : Dev nD) (q : DmaSem sig) (hq : ¬(3 ≤ q.val ∧ q.val < 7)) (n : ℕ) :
    (levAts L lv : sProp 𝕄) ⊢ MayWait (c : Thread nD τ) (.dma q) () (OR c n) :=
  MayOwe.of_cut (L := L) (lev := lv) 0 (fun p hp => by rw [Finset.mem_singleton.mp hp, L_tc]; exact Finset.mem_singleton_self _)
    (fun g u hg => by obtain ⟨c', s, rfl⟩ := OR_pos hg; exact Finset.mem_singleton_self _)
    (fun p hp => by rw [Finset.mem_singleton.mp hp]; exact le_of_eq (if_neg hq))
    (fun g u hg => by obtain ⟨c', s, rfl⟩ := OR_pos hg; rw [lv_recv]; decide)

/-- A device may wait on its barrier cell while it owes the landings. -/
theorem mayWait_bar (c : Dev nD) : (levAts L lv : sProp 𝕄) ⊢ MayWait (c : Thread nD τ) (.reg barrier0) () (OR c 0) :=
  MayOwe.of_cut (L := L) (lev := lv) 1 (fun p hp => by rw [Finset.mem_singleton.mp hp, L_tc]; exact Finset.mem_singleton_self _)
    (fun g u hg => by obtain ⟨c', s, rfl⟩ := OR_pos hg; exact Finset.mem_singleton_self _)
    (fun p hp => by rw [Finset.mem_singleton.mp hp]; exact le_of_eq rfl)
    (fun g u hg => by obtain ⟨c', s, rfl⟩ := OR_pos hg; rw [lv_recv]; decide)

/-! ## What a device starts from -/

/-- The cells that devices share, as the launch numbers a device's: the barrier, the receive cells of slots 1 to 3, the send cells. -/
def csem : Fin 7 → SemLoc sig := fun j => if j.val = 0 then .reg barrier0 else if h : j.val < 4 then .dma (recvSem ⟨j.val, h⟩) else .dma (sendSem ⟨j.val - 4, by omega⟩)
/-- A shared cell by its device and its number. -/
abbrev kcell (ck : Dev nD × Fin 7) : GSem nD τ sig := ((ck.1 : Thread nD τ), csem ck.2)
/-- The number of a receive cell. -/
def kR (s : Fin 4) : Fin 7 := ⟨s.val, by omega⟩
/-- The number of a send cell. -/
def kS (d : Fin 3) : Fin 7 := ⟨4 + d.val, by omega⟩

variable (K : Dev nD × Fin 7 → ℕ)

/-- What the signal of duty `d` takes. -/
def sigKit (c : Dev nD) (d : Fin 3) : sProp 𝕄 :=
  iprop(cellInv ER (rd m) (K (c + backW d, 0)) (barCell (c + backW d)) ∗ dutyTok ER (barCell (c + backW d)) 0 d ∗ reached ER (barCell (c + backW d)) 0)
/-- What the copy of slab `d` takes, and the wait for its read-out after it. -/
def sendKit (c : Dev nD) (d : Fin 3) : sProp 𝕄 :=
  iprop(cellInv ER (rd m) (K (c, kS d)) (sendCell c d) ∗ cellInv ER (rd m) (K (c + offW (up d), kR (slotOf d))) (recvCell (c + offW (up d)) (slotOf d))
    ∗ dutyTok ER (sendCell c d) 0 0 ∗ reached ER (sendCell c d) 0 ∗ dutyTok ER (recvCell (c + offW (up d)) (slotOf d)) 0 0 ∗ atPos ER (sendCell c d) 0 ∅ 0)
/-- A landing not waited for yet. -/
def recvW (c : Dev nD) (s : Fin 4) : sProp 𝕄 :=
  iprop(∃ κ, cellInv ER (rd m) κ (recvCell c s) ∗ atPos ER (recvCell c s) 0 ∅ 0 ∗ cred (tallyAt (recvCell c s) () N))
/-- A read-out not waited for yet. -/
def sendW (c : Dev nD) (d : Fin 3) : sProp 𝕄 :=
  iprop(∃ κ, cellInv ER (rd m) κ (sendCell c d) ∗ atPos ER (sendCell c d) 0 ∅ 0 ∗ cred (tallyAt (sendCell c d) () N))
/-- What the wait on the barrier cell takes. -/
def barKit (c : Dev nD) : sProp 𝕄 :=
  iprop(cellInv ER (rd m) (K (c, 0)) (barCell c) ∗ atPos ER (barCell c) 0 ∅ 0 ∗ cred (tallyAt (barCell c) () 3))

/-- The shared cells' part of what a device starts from. -/
def start (c : Dev nD) : sProp 𝕄 :=
  iprop((∃ K, barKit m K c ∗ (sigKit m K c 0 ∗ sigKit m K c 1 ∗ sigKit m K c 2) ∗ (sendKit m K c 0 ∗ sendKit m K c 1 ∗ sendKit m K c 2))
    ∗ (recvW m c 1 ∗ recvW m c 2 ∗ recvW m c 3) ∗ (reached ER (recvCell c 1) 0 ∗ reached ER (recvCell c 2) 0 ∗ reached ER (recvCell c 3) 0) ∗ levAts L lv)

end Cert.KernelIdeal.Exchange

end
-- ==== Proof.Trade.lean ====
/-
  The exchange, run: the meeting, the conversions of the three slabs that go to other devices, their copies, the conversion of the
  device's own slab. One lemma per piece of the folded text, at a symbolic slab and piece.
-/
module

public import proofs.«01_k».proof.Proof.Proto

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-- A program that has come to its end. -/
theorem wpc_ret {α : Type} (c : Dev nD) {a : α} {Q : α → sProp 𝕄} : Q a ⊢ wpc (F := F) c (.ret a) Q := by
  unfold wpc; rw [wp_ret]; iintro H; imodintro; iexact H
/-- Programs in sequence. -/
theorem wpc_bind {α β : Type} (c : Dev nD) (p : KProg F α) (k : α → KProg F β) {Q : β → sProp 𝕄} :
    wpc (F := F) c p (fun a => wpc c (k a) Q) ⊢ wpc c (p >>= k) Q := by
  unfold wpc; rw [wp_bind]

/-! ## What the pieces hold -/

/-- The device's columns of `x`, all of them. -/
def xP (c : Dev nD) : sProp 𝕄 := iprop((c : Thread nD τ).loc main_arg0 ↦{fullShare} xv m c)
/-- The buffer that the rows of `x` are read into. -/
def cbufP (c : Dev nD) (f : S256x2048.Idx → Elt F .f32) : sProp 𝕄 := iprop((c : Thread nD τ).loc cc0_scratch4 ↦{fullShare} f)
/-- The buffer that the converted rows are written from. -/
def stageP (c : Dev nD) (f : S256x2048.Idx → Elt F .bf16) : sProp 𝕄 := iprop((c : Thread nD τ).loc cc0_scratch5 ↦{fullShare} f)
/-- A transfer semaphore at zero. -/
abbrev sv (c : Dev nD) (s : DmaSem sig) : sProp (MT nD τ sig Unit (Elt F) ℕ UU ℕ) := semVal ((c : Thread nD τ), .dma s) 0

/-- A slab of which the first `k` pieces are written. -/
def slabUpto (c : Dev nD) (d : Fin 3) (k : ℕ) : sProp 𝕄 :=
  iprop(∃ f, ⌜∀ i ∈ slabS d, (i 1).val < 256 * k → f i = x16G m c i⌝ ∗ slabP c d f)
/-- The device's own slot, of which the first `k` pieces are written. -/
def ownUpto (c : Dev nD) (k : ℕ) : sProp 𝕄 :=
  iprop(∃ f, ⌜∀ i ∈ commS 0, (i 1).val < 256 * k → f i = commG m c i⌝ ∗ commP c 0 f)

/-- What a copy into the conversion buffer credits. -/
abbrev Nin : ℕ := (Memref.whole cc0_scratch4 : Memref sig .tc .vmem S256x2048 .f32).view.dmaCredit
/-- What a copy out of the stage credits. -/
abbrev Nout : ℕ := (convDst 0 0).view.dmaCredit

/-- The rows of piece `(d, k)` on their way in. -/
def inFly (c : Dev nD) (d : Fin 4) (k : Fin 8) : sProp 𝕄 := Fly c (.dma (convSem 0)) Nin iprop(cbufP c (cX m c d k) ∗ xP m c)
/-- Piece `k` of slab `d` on its way out. -/
def outFly (c : Dev nD) (d : Fin 3) (k : Fin 8) : sProp 𝕄 :=
  Fly c (.dma (convSem 2)) Nout iprop(slabUpto m c d (k.val + 1) ∗ ∃ f, stageP c f)

/-! ## The devices that the text names -/

/-- The first device signalled. -/
theorem dev1_eq (c : Dev nD) : k0_dev1 c = (c + backW 1 : Fin 4).val := by revert c; decide
/-- The second device signalled. -/
theorem dev2_eq (c : Dev nD) : k0_dev2 c = (c + backW 2 : Fin 4).val := by revert c; decide
/-- The third device signalled. -/
theorem dev3_eq (c : Dev nD) : k0_dev3 c = (c + backW 0 : Fin 4).val := by revert c; decide
/-- The device that slab 0 goes to. -/
theorem dev4_eq (c : Dev nD) : k0_dev4 c = (c + offW (up 0) : Fin 4).val := by revert c; decide
/-- The device that slab 1 goes to. -/
theorem dev5_eq (c : Dev nD) : k0_dev5 c = (c + offW (up 1) : Fin 4).val := by revert c; decide
/-- The device that slab 2 goes to. -/
theorem dev6_eq (c : Dev nD) : k0_dev6 c = (c + offW (up 2) : Fin 4).val := by revert c; decide

section Spec

variable (i : grid0.Coords) (c : Dev nD) (h1 : k0_cond1 i = 1#1)

/-- Starting the copy of a piece into the conversion buffer. -/
theorem inStart_spec (d : Fin 4) (k : Fin 8) (Q : PUnit → sProp 𝕄) :
    iprop(xP m c ∗ (∃ f, cbufP c f) ∗ sv c (convSem 0)) ⊢ iprop((inFly m c d k -∗ Q ⟨⟩) -∗ wpc c (inStart i c h1 d k) Q) := by
  unfold inStart inFly Prog.lift xP cbufP
  iintro ⟨Hx, ⟨%f, Hb⟩, Hv⟩ Hk
  iapply (start_copy c (src := inSrc i c h1 d k) (dst := Memref.whole cc0_scratch4) (fs := xv m c) (fd := f) (G := cX m c d k) (T := Finset.univ)
    (Sd := Finset.univ) Nin rfl (View.dmaCredit_pos _ (by decide)) (Finset.subset_univ _) (Finset.subset_univ _)
    ((View.read_whole _ _).trans (inSrc_read i c h1 d k (xv m c)).symm) (fun j _ hj => absurd (by rw [View.set_whole]; exact Finset.mem_univ j) hj)) $$ [Hx Hb Hv]
  · isplitl [Hx]; · iexact Hx
    isplitl [Hb] <;> iassumption
  iintro Hf
  iapply (wpc_ret c)
  iapply Hk
  iexact Hf

/-- Waiting for it. -/
theorem inWait_spec (d : Fin 4) (k : Fin 8) (n : ℕ) (Q : PUnit → sProp 𝕄) :
    iprop(inFly m c d k ∗ owesX c (OR c n) ∗ levAts L lv)
      ⊢ iprop(((cbufP c (cX m c d k) ∗ xP m c ∗ sv c (convSem 0) ∗ owesX c (OR c n)) -∗ Q ⟨⟩) -∗ wpc c (inWait i c h1 d k) Q) := by
  unfold inWait inFly Prog.lift
  iintro ⟨Hf, HO, #Hl⟩ Hk
  iapply (wait_copy c (N := Nin) rfl (O := OR c n)) $$ [Hf HO]
  · isplitl [Hf]; · iexact Hf
    isplitl [HO]; · iexact HO
    iapply (mayWait_local c (convSem 0) (by rw [convSem_val]; decide) n); iexact Hl
  iintro ⟨⟨Hb, Hx⟩, Hv, HO⟩
  iapply (wpc_ret c)
  iapply Hk
  isplitl [Hb]; · iexact Hb
  isplitl [Hx]; · iexact Hx
  isplitl [Hv] <;> iassumption

/-- The offset zero. -/
theorem off00 : (![0, 0] : Fin 2 → ℕ) = fun _ => 0 := by decide

/-- Loading the piece. -/
theorem inLoad_spec (f : S256x2048.Idx → Elt F .f32) (Q : Vec F S256x2048 .f32 → sProp 𝕄) :
    cbufP c f ⊢ iprop((cbufP c f -∗ Q f) -∗ wpc c inLoad Q) := by
  unfold inLoad Prog.lift cbufP
  iintro Hb Hk
  iapply (wp_load 𝒱₀ (c : Thread nD τ) none Set.univ (m := Memref.whole cc0_scratch4) (Finset.subset_univ _)) $$ Hb; iintro Hb
  iapply (wpc_ret c)
  rw [show (Memref.whole cc0_scratch4 : Memref sig .tc .vmem S256x2048 .f32).view.readAt (Elt F) rC.toLoadRect f = f from
    Memref.readAt_unit_zero (Elt F) cc0_scratch4 off00 _ f]
  iapply Hk
  iexact Hb

/-- Storing the converted piece on the stage. -/
theorem stageStore_spec (v : Vec F S256x2048 .f32) (Q : PUnit → sProp 𝕄) :
    iprop(∃ f, stageP c f) ⊢ iprop((stageP c (k0_pay1 v) -∗ Q ⟨⟩) -∗ wpc c (stageStore v) Q) := by
  unfold stageStore stageP
  simp only [Prog.lift, Prog.bind_op, Prog.bind_ret]
  iintro ⟨%f, Hb⟩ Hk
  iapply (wp_load 𝒱₀ (c : Thread nD τ) none Set.univ (m := Memref.whole cc0_scratch5) (Finset.subset_univ _)) $$ Hb; iintro Hb
  iapply (wp_store 𝒱₀ (c : Thread nD τ) none Set.univ (m := Memref.whole cc0_scratch5) (r := rC) (Mk := Finset.univ) (Finset.subset_univ _)) $$ Hb; iintro Hb
  iapply (wpc_ret c)
  iapply Hk
  rw [show ((Memref.whole cc0_scratch5 : Memref sig .tc .vmem S256x2048 .bf16).access rC : View sig .tc _ _ _).write (Elt F) f (k0_pay1 v) Finset.univ = k0_pay1 v from
    Memref.write_access_unit_zero_univ (Elt F) cc0_scratch5 off00 _ f _]
  iexact Hb

/-- The converted rows, element by element. -/
theorem pay1_apply (v : Vec F S256x2048 .f32) (y : S256x2048.Idx) : k0_pay1 v y = FloatOps.truncf .bf16 bitsLt_bf16_f32 (v y) := by
  unfold k0_pay1
  exact congrFun (shapeCast_self _ _) y

/-- A converted piece is the slab's. -/
theorem pay1_cX (d : Fin 3) (k : Fin 8) (y : S256x2048.Idx) :
    x16G m c (ix3 d (rowK k (y 0)) (y 1)) = k0_pay1 (cX m c (up d) k) y := by
  rw [pay1_apply]; rfl

/-- Starting the copy of the stage into the slab. -/
theorem outStart_spec (d : Fin 3) (k : Fin 8) (Q : PUnit → sProp 𝕄) :
    iprop(slabUpto m c d k.val ∗ stageP c (k0_pay1 (cX m c (up d) k)) ∗ sv c (convSem 2))
      ⊢ iprop((outFly m c d k -∗ Q ⟨⟩) -∗ wpc c (outStart d k) Q) := by
  unfold outStart outFly Prog.lift slabUpto stageP slabP
  iintro ⟨⟨%f, %hf, Hs⟩, Hb, Hv⟩ Hk
  classical
  iapply (start_copy c (src := Memref.whole cc0_scratch5) (dst := convDst d k) (fs := k0_pay1 (cX m c (up d) k)) (fd := f)
    (G := fun j => if j ∈ (convDst d k).view.set then x16G m c j else f j) (T := Finset.univ)
    (Sd := slabS d) Nout rfl (View.dmaCredit_pos _ (by decide)) (Finset.subset_univ _) (conv_sub d k)
    (by
      refine (conv_read d k _).trans ?_
      refine Eq.trans ?_ (View.read_whole (Val := Elt F) cc0_scratch5 (k0_pay1 (cX m c (up d) k))).symm
      funext y
      have hm : (ix3 d (rowK k (y 0)) (y 1) : S3x2048x2048.Idx) ∈ (convDst d k).view.set := by
        rw [conv_mem]
        have : (y 0).val < 256 := (y 0).isLt
        exact ⟨rfl, Nat.le_add_right _ _, Nat.add_lt_add_left this _⟩
      show (if _ then _ else _) = _
      rw [if_pos hm, pay1_cX])
    (fun j _ hj => (if_neg hj).symm)) $$ [Hs Hb Hv]
  · isplitl [Hb]; · iexact Hb
    isplitl [Hs] <;> iassumption
  iintro Hf
  iapply (wpc_ret c)
  iapply Hk
  iapply (Fly_mono c _ _ ?_) $$ Hf
  iintro ⟨Hs, Hb⟩
  isplitl [Hs]
  · iexists (fun j => if j ∈ (convDst d k).view.set then x16G m c j else f j)
    isplitr
    · ipureintro
      intro j hj hlt
      show (if j ∈ (convDst d k).view.set then x16G m c j else f j) = _
      by_cases hm : j ∈ (convDst d k).view.set
      · rw [if_pos hm]
      · rw [if_neg hm]
        rw [conv_mem] at hm
        simp only [slabS, Finset.mem_filter, Finset.mem_univ, true_and] at hj
        exact hf j (by simp only [slabS, Finset.mem_filter, Finset.mem_univ, true_and]; exact hj) (by omega)
    iexact Hs
  iexists _
  iexact Hb

/-- Waiting for it. -/
theorem outWait_spec (d : Fin 3) (k : Fin 8) (n : ℕ) (Q : PUnit → sProp 𝕄) :
    iprop(outFly m c d k ∗ owesX c (OR c n) ∗ levAts L lv)
      ⊢ iprop(((slabUpto m c d (k.val + 1) ∗ (∃ f, stageP c f) ∗ sv c (convSem 2) ∗ owesX c (OR c n)) -∗ Q ⟨⟩) -∗ wpc c (outWait d k) Q) := by
  unfold outWait outFly Prog.lift
  iintro ⟨Hf, HO, #Hl⟩ Hk
  iapply (wait_copy c (N := Nout) (rfl : (convDst d k).view.dmaCredit = Nout) (O := OR c n)) $$ [Hf HO]
  · isplitl [Hf]; · iexact Hf
    isplitl [HO]; · iexact HO
    iapply (mayWait_local c (convSem 2) (by rw [convSem_val]; decide) n); iexact Hl
  iintro ⟨⟨Hs, Hb⟩, Hv, HO⟩
  iapply (wpc_ret c)
  iapply Hk
  isplitl [Hs]; · iexact Hs
  isplitl [Hb]; · iexact Hb
  isplitl [Hv] <;> iassumption

/-- The first piece of a slab. -/
theorem firstPiece_spec (d : Fin 3) (n : ℕ) (Q : PUnit → sProp 𝕄) :
    iprop(inFly m c (up d) 0 ∗ slabUpto m c d 0 ∗ (∃ f, stageP c f) ∗ sv c (convSem 2) ∗ owesX c (OR c n) ∗ levAts L lv)
      ⊢ iprop(((inFly m c (up d) 1 ∗ outFly m c d 0 ∗ owesX c (OR c n)) -∗ Q ⟨⟩) -∗ wpc c (firstPiece i c h1 d) Q) := by
  unfold firstPiece
  iintro ⟨Hf, Hs, Hg, Hv2, HO, #Hl⟩ Hk
  iapply wpc_bind
  iapply (inWait_spec m i c h1 (up d) 0 n) $$ [Hf HO]
  · isplitl [Hf]; · iexact Hf
    isplitl [HO]; · iexact HO
    iexact Hl
  iintro ⟨Hb, Hx, Hv, HO⟩
  iapply wpc_bind
  iapply (inLoad_spec c) $$ Hb
  iintro Hb
  iapply wpc_bind
  iapply (stageStore_spec c) $$ Hg
  iintro Hg
  iapply wpc_bind
  iapply (inStart_spec m i c h1 (up d) 1) $$ [Hx Hb Hv]
  · isplitl [Hx]; · iexact Hx
    isplitl [Hb]; · iexists _; iexact Hb
    iexact Hv
  iintro Hf
  iapply (outStart_spec m c d 0) $$ [Hs Hg Hv2]
  · isplitl [Hs]; · iexact Hs
    isplitl [Hg] <;> iassumption
  iintro Ho
  iapply Hk
  isplitl [Hf]; · iexact Hf
  isplitl [Ho] <;> iassumption

/-- One more than one less. -/
theorem pred_succ (k : Fin 8) (hk : k ≠ 0) : (k - 1).val + 1 = k.val := by revert k; decide

/-- A later piece of a slab. -/
theorem laterPiece_spec (d : Fin 3) (k : Fin 8) (hk : k ≠ 0) (n : ℕ) (Q : PUnit → sProp 𝕄) :
    iprop((inFly m c (up d) k ∗ outFly m c d (k - 1) ∗ owesX c (OR c n)) ∗ levAts L lv)
      ⊢ iprop(((inFly m c (nxtD (up d) k) (k + 1) ∗ outFly m c d k ∗ owesX c (OR c n)) -∗ Q ⟨⟩) -∗ wpc c (laterPiece i c h1 d k) Q) := by
  unfold laterPiece
  iintro ⟨⟨Hf, Ho, HO⟩, #Hl⟩ Hk
  iapply wpc_bind
  iapply (inWait_spec m i c h1 (up d) k n) $$ [Hf HO]
  · isplitl [Hf]; · iexact Hf
    isplitl [HO]; · iexact HO
    iexact Hl
  iintro ⟨Hb, Hx, Hv, HO⟩
  iapply wpc_bind
  iapply (inLoad_spec c) $$ Hb
  iintro Hb
  iapply wpc_bind
  iapply (outWait_spec m c d (k - 1) n) $$ [Ho HO]
  · isplitl [Ho]; · iexact Ho
    isplitl [HO]; · iexact HO
    iexact Hl
  rw [pred_succ k hk]
  iintro ⟨Hs, Hg, Hv2, HO⟩
  iapply wpc_bind
  iapply (stageStore_spec c) $$ Hg
  iintro Hg
  iapply wpc_bind
  iapply (inStart_spec m i c h1 (nxtD (up d) k) (k + 1)) $$ [Hx Hb Hv]
  · isplitl [Hx]; · iexact Hx
    isplitl [Hb]; · iexists _; iexact Hb
    iexact Hv
  iintro Hf
  iapply (outStart_spec m c d k) $$ [Hs Hg Hv2]
  · isplitl [Hs]; · iexact Hs
    isplitl [Hg] <;> iassumption
  iintro Ho
  iapply Hk
  isplitl [Hf]; · iexact Hf
  isplitl [Ho] <;> iassumption

/-- The device that a slab goes to. -/
theorem sendTo_eq (d : Fin 3) : sendTo i c h1 d = c + offW (up d) := by
  match d with
  | ⟨0, _⟩ => exact Fin.ext (dev4_eq c)
  | ⟨1, _⟩ => exact Fin.ext (dev5_eq c)
  | ⟨2, _⟩ => exact Fin.ext (dev6_eq c)

/-- No slab lands in the device's own slot. -/
theorem slotOf_ne (d : Fin 3) : slotOf d ≠ 0 := by revert d; decide

/-- What a peer is handed has what it waits for. -/
theorem landed_commG (d : Fin 3) (f : S4x2048x2048.Idx → Elt F .bf16) :
    ∀ j ∈ commS (slotOf d), (slotM (slotOf d)).view.write (Elt F) f ((slabM d).view.read (Elt F) (x16G m c)) Finset.univ j = commG m (c + offW (up d)) j := by
  refine write_eq_of (slotM (slotOf d)) f (commG m (c + offW (up d))) _ ?_ (fun j hj hn => absurd (by rw [slotM_set]; exact hj) hn)
  rw [slotM_read, slab_read]
  funext y
  show xcol m (c + offW (up d) + ofs (slotOf d)) (c + offW (up d)) _ = xcol m c (c + offW (up d)) _
  rw [sendTo_slot]

/-- The remote copy of a slab, addressed to the device `n`. -/
theorem send_raw (K : Dev nD × Fin 7 → ℕ) (d : Fin 3) (n : Dev nD) (hn : n = c + offW (up d)) (g : S4x2048x2048.Idx → Elt F .bf16) (W : Waits sig Unit)
    {hsc : (slotM (slotOf d) : Memref sig (Dev.tc n : Thread nD τ).2.kind .vmem S2048x2048 .bf16).view.ref.isScScratch = false}
    {hsrc : (slabM d).view.WordExact} {hdst : (slotM (slotOf d)).view.WordExact}
    {hsem : DmaTarget.Typed .hbm (.dma (recvSem (slotOf d))) (.remote (Dev.tc n : Thread nD τ) (slotM (slotOf d)) (.dma (sendSem d)) hsc)}
    {α : Type} {Q : α → sProp 𝕄} {k : PUnit → KProg F α} :
    iprop(cellInv ER (rd m) (K (c, kS d)) (sendCell c d) ∗ cellInv ER (rd m) (K (c + offW (up d), kR (slotOf d))) (recvCell (c + offW (up d)) (slotOf d))
        ∗ slabP c d (x16G m c) ∗ commP (c + offW (up d)) (slotOf d) g ∗ owes (c : Thread nD τ) (OR c d.val) W
        ∗ dutyTok ER (sendCell c d) 0 0 ∗ reached ER (sendCell c d) 0
        ∗ dutyTok ER (recvCell (c + offW (up d)) (slotOf d)) 0 0 ∗ reached ER (recvCell (c + offW (up d)) (slotOf d)) 0)
      ⊢ iprop(((cred (tallyAt (sendCell c d) () N) ∗ owes (c : Thread nD τ) (OR c (d.val + 1)) W) -∗ wpc c (k ⟨⟩) Q)
          -∗ wpc c (.op (.enqueueDma (slabM d) (.remote (Dev.tc n : Thread nD τ) (slotM (slotOf d)) (.dma (sendSem d)) hsc) (.dma (recvSem (slotOf d))) hsrc hdst hsem) k) Q) := by
  subst hn
  have hN : (slotM (slotOf d)).view.dmaCredit = N := rfl
  have e₁ : (rd (F := F) m).payload (sendCell c d) 0 0 = iprop((c : Thread nD τ).loc main_v1_1 ↦[(slabM d).view.set]{fullShare} x16G m c) := by
    rw [payload_send, slab_set]; rfl
  have e₂ : iprop((((c + offW (up d) : Dev nD) : Thread nD τ).loc cc0_scratch0 ↦[(slotM (slotOf d)).view.set]{fullShare}
      (slotM (slotOf d)).view.write (Elt F) g ((slabM d).view.read (Elt F) (x16G m c)) Finset.univ : sProp 𝕄))
      = (rd (F := F) m).payload (recvCell (c + offW (up d)) (slotOf d)) 0 0 := by
    rw [payload_recv, slotM_set]; exact pointsTo_congr (landed_commG m c d g)
  unfold slabP commP wpc
  rw [← slab_set, ← slotM_set]
  iintro H Hk
  iapply (Rounds.wp_send_pointsTo 𝒱₀ ER (rd m) (c : Thread nD τ) none (c' := ((c + offW (up d) : Dev nD) : Thread nD τ))
    (src := slabM d) (dst := slotM (slotOf d)) (sS := .dma (sendSem d)) (sem := .dma (recvSem (slotOf d)))
    (κ₁ := K (c, kS d)) (κ₂ := K (c + offW (up d), kR (slotOf d))) (r₁ := 0) (r₂ := 0) (d₁ := 0) (d₂ := 0) (fd := g)
    (by rw [duties_send]; exact Finset.mem_singleton_self _) (by rw [duties_recv m _ _ (slotOf_ne d)]; exact Finset.mem_singleton_self _)
    () () N ((View.amount_dma _ _).trans hN) (amount_send m c d 0) (amount_recv m (c + offW (up d)) (slotOf d) 0) (OR c (d.val + 1)) (OR_step c d) (W := W)
    (Entails.of_eq e₁.symm) (Entails.of_eq e₂)) $$ H
  iexact Hk

/-- The remote copy of a slab. -/
theorem sendSlab_spec (K : Dev nD × Fin 7 → ℕ) (d : Fin 3) (Q : PUnit → sProp 𝕄) :
    iprop(slabUpto m c d 8 ∗ sendKit m K c d ∗ barPay c d ∗ owesX c (OR c d.val))
      ⊢ iprop(((sendW m c d ∗ owesX c (OR c (d.val + 1))) -∗ Q ⟨⟩) -∗ wpc c (sendSlab i c h1 d) Q) := by
  unfold sendSlab Prog.lift
  unfold slabUpto sendKit barPay owesX
  iintro ⟨⟨%f, %hf, Hs⟩, ⟨#HI1, #HI2, Ht1, #Hr1, Ht2, Hat⟩, ⟨⟨%g, Hd⟩, #Hr2⟩, ⟨%W, HO⟩⟩ Hk
  have hs : slabP c d f = slabP c d (x16G m c) := by
    unfold slabP
    exact pointsTo_congr (fun j hj => hf j hj (by have : (j 1).val < 2048 := (j 1).isLt; omega))
  ihave Hs := (Entails.of_eq hs) $$ Hs
  iapply (send_raw m c K d (sendTo i c h1 d) (sendTo_eq i c h1 d) g W) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply (wpc_ret c)
  iapply Hk
  isplitl [Hc Hat]
  · unfold sendW
    iexists (K (c, kS d))
    isplitr; · iexact HI1
    isplitl [Hat] <;> iassumption
  iexists W
  iexact HO

/-- A whole slab: its pieces, and its copy. The read of the next slab's first piece is under way at the end. -/
theorem slab_spec (K : Dev nD × Fin 7 → ℕ) (d : Fin 3) (Q : PUnit → sProp 𝕄) :
    iprop(inFly m c (up d) 0 ∗ slabUpto m c d 0 ∗ ((∃ f, stageP c f) ∗ sv c (convSem 2)) ∗ sendKit m K c d ∗ barPay c d ∗ owesX c (OR c d.val) ∗ levAts L lv)
      ⊢ iprop(((inFly m c (up d + 1) 0 ∗ ((∃ f, stageP c f) ∗ sv c (convSem 2)) ∗ sendW m c d ∗ owesX c (OR c (d.val + 1))) -∗ Q ⟨⟩) -∗ wpc c (slab i c h1 d) Q) := by
  unfold slab
  iintro ⟨Hf, Hs, ⟨Hg, Hv⟩, HK, HB, HO, #Hl⟩ Hk
  iapply wpc_bind
  iapply (firstPiece_spec m i c h1 d d.val) $$ [Hf Hs Hg Hv HO]
  · isplitl [Hf]; · iexact Hf
    isplitl [Hs]; · iexact Hs
    isplitl [Hg]; · iexact Hg
    isplitl [Hv]; · iexact Hv
    isplitl [HO]; · iexact HO
    iexact Hl
  iintro H
  iapply wpc_bind
  iapply (laterPiece_spec m i c h1 d 1 (by decide) d.val) $$ [H]
  · isplitl [H]; · iexact H
    iexact Hl
  iintro H
  iapply wpc_bind
  iapply (laterPiece_spec m i c h1 d 2 (by decide) d.val) $$ [H]
  · isplitl [H]; · iexact H
    iexact Hl
  iintro H
  iapply wpc_bind
  iapply (laterPiece_spec m i c h1 d 3 (by decide) d.val) $$ [H]
  · isplitl [H]; · iexact H
    iexact Hl
  iintro H
  iapply wpc_bind
  iapply (laterPiece_spec m i c h1 d 4 (by decide) d.val) $$ [H]
  · isplitl [H]; · iexact H
    iexact Hl
  iintro H
  iapply wpc_bind
  iapply (laterPiece_spec m i c h1 d 5 (by decide) d.val) $$ [H]
  · isplitl [H]; · iexact H
    iexact Hl
  iintro H
  iapply wpc_bind
  iapply (laterPiece_spec m i c h1 d 6 (by decide) d.val) $$ [H]
  · isplitl [H]; · iexact H
    iexact Hl
  iintro H
  iapply wpc_bind
  iapply (laterPiece_spec m i c h1 d 7 (by decide) d.val) $$ [H]
  · isplitl [H]; · iexact H
    iexact Hl
  iintro ⟨Hf, Ho, HO⟩
  iapply wpc_bind
  iapply (outWait_spec m c d 7 d.val) $$ [Ho HO]
  · isplitl [Ho]; · iexact Ho
    isplitl [HO]; · iexact HO
    iexact Hl
  iintro ⟨Hs, Hg, Hv, HO⟩
  iapply (sendSlab_spec m i c h1 K d) $$ [Hs HK HB HO]
  · isplitl [Hs]; · iexact Hs
    isplitl [HK]; · iexact HK
    isplitl [HB] <;> iassumption
  iintro ⟨HW, HO⟩
  iapply Hk
  isplitl [Hf]; · iexact Hf
  isplitl [Hg Hv]; · isplitl [Hg] <;> iassumption
  isplitl [HW] <;> iassumption

/-! ## The device's own slab -/

/-- Which entries a piece of the own slot has. -/
theorem own_mem (k : Fin 8) (j : S4x2048x2048.Idx) :
    j ∈ ((Memref.whole cc0_scratch0).access (rOwn k) : View sig .tc _ _ _).setOn Finset.univ ↔ (j 0).val = 0 ∧ 256 * k.val ≤ (j 1).val ∧ (j 1).val < 256 * k.val + 256 := by
  have h : ((Memref.whole cc0_scratch0).access (rOwn k) : View sig .tc _ _ _).setOn Finset.univ = (rOwn k).set := by
    rw [View.setOn_univ, View.set_slice_whole]
  rw [h]
  refine (mem_box _ _ j).trans ?_
  have h2 : (j 2).val < 2048 := (j 2).isLt
  show (j 0).val = 0 ∧ (256 * k.val ≤ (j 1).val ∧ (j 1).val < 256 * k.val + 256) ∧ 0 ≤ (j 2).val ∧ (j 2).val < 0 + 2048 ↔ _
  omega

/-- The piece as a region. -/
theorem own_mem_set (k : Fin 8) : ((Memref.whole cc0_scratch0).access (rOwn k) : View sig .tc _ _ _).setOn Finset.univ = (rOwn k).set := by
  rw [View.setOn_univ, View.set_slice_whole]

/-- A whole view's entries are the buffer's. -/
theorem setOn_whole (b : Ref sig .tc) (M : Finset b.ty.Idx) : (View.whole b).setOn M = M := Finset.map_refl

/-- What a store of a piece leaves at an entry. -/
theorem own_write (k : Fin 8) (f : S4x2048x2048.Idx → Elt F .bf16) (w : S1x256x2048.Idx → Elt F .bf16) (a : Fin 256) (b : Fin 2048) :
    ((Memref.whole cc0_scratch0).access (rOwn k) : View sig .tc _ _ _).write (Elt F) f w Finset.univ (ix3 0 (rowK k a) b) = w (ix3 0 a b) := by
  have he : ((Memref.whole cc0_scratch0).access (rOwn k) : View sig .tc _ _ _).emb (ix3 0 a b) = (ix3 0 (rowK k a) b : S4x2048x2048.Idx) :=
    emb_box ![0, 256 * k.val, 0] (inb_own k) (ix3 0 a b) (ix3 0 (rowK k a) b) rfl rfl (Nat.zero_add b.val).symm
  rw [← he, View.write_emb]
  exact if_pos (Finset.mem_univ _)

/-- What is stored of a piece. -/
theorem pay30_apply (v : Vec F S256x2048 .f32) (a : Fin 256) (b : Fin 2048) :
    k0_pay30 v (ix3 0 a b) = FloatOps.truncf .bf16 bitsLt_bf16_f32 (v (ix2 a b)) := by
  unfold k0_pay30
  refine (shapeCast_apply (α := Elt F .bf16) _ shapeCasts_S256x2048_S1x256x2048 (ix3 0 a b) (ix2 a b) ?_).trans rfl
  rw [Shape.rowMajor_val_three, Shape.rowMajor_val_two]
  show a.val * 2048 + b.val = (0 * 256 + a.val) * 2048 + b.val
  omega

/-- One more piece of the own slot is done after its store. -/
theorem own_done (k : Fin 8) (f : S4x2048x2048.Idx → Elt F .bf16) (hf : ∀ j ∈ commS 0, (j 1).val < 256 * k.val → f j = commG m c j) :
    ∀ j ∈ commS 0, (j 1).val < 256 * (k.val + 1) →
      ((Memref.whole cc0_scratch0).access (rOwn k) : View sig .tc _ _ _).write (Elt F) f (k0_pay30 (cX m c 3 k)) Finset.univ j = commG m c j := by
  intro j hj hlt
  by_cases hm : j ∈ ((Memref.whole cc0_scratch0).access (rOwn k) : View sig .tc _ _ _).setOn Finset.univ
  · rw [own_mem] at hm
    obtain ⟨h0, h1, h2⟩ := hm
    have hj' : j = (ix3 0 (rowK k ⟨(j 1).val - 256 * k.val, by omega⟩) (j 2) : S4x2048x2048.Idx) :=
      idx3_ext h0 (by show (j 1).val = 256 * k.val + ((j 1).val - 256 * k.val); omega) rfl
    rw [hj']
    refine (own_write k f _ _ _).trans ((pay30_apply _ _ _).trans ?_)
    show FloatOps.truncf .bf16 bitsLt_bf16_f32 (xv m c (ix2 (rowP (c + offW 3) _) _)) = FloatOps.truncf .bf16 bitsLt_bf16_f32 (xv m (c + ofs 0) (ix2 (rowP c _) _))
    rw [show c + offW 3 = c from add_zero c, show c + ofs 0 = c from add_zero c]
  · rw [View.write_of_not_mem _ _ _ hm]
    rw [own_mem] at hm
    have h0 : (j 0).val = 0 := by simpa [commS] using hj
    exact hf j hj (by omega)

/-- A piece of the own slab, waited for, loaded and stored. -/
theorem ownStore_spec (k : Fin 8) (Q : PUnit → sProp 𝕄) :
    iprop((inFly m c 3 k ∗ ownUpto m c k.val ∗ owesX c (OR c 3)) ∗ levAts L lv)
      ⊢ iprop(((cbufP c (cX m c 3 k) ∗ xP m c ∗ sv c (convSem 0) ∗ ownUpto m c (k.val + 1) ∗ owesX c (OR c 3)) -∗ Q ⟨⟩) -∗ wpc c (ownStore i c h1 k) Q) := by
  unfold ownStore
  iintro ⟨⟨Hf, Hs, HO⟩, #Hl⟩ Hk
  iapply wpc_bind
  iapply (inWait_spec m i c h1 3 k 3) $$ [Hf HO]
  · isplitl [Hf]; · iexact Hf
    isplitl [HO]; · iexact HO
    iexact Hl
  iintro ⟨Hb, Hx, Hv, HO⟩
  iapply wpc_bind
  iapply (inLoad_spec c) $$ Hb
  iintro Hb
  simp only [Prog.lift, Prog.bind_op, Prog.bind_ret]
  unfold ownUpto commP
  icases Hs with ⟨%f, %hf, Hs⟩
  have hsub : ((Memref.whole cc0_scratch0).access (rOwn k) : View sig .tc _ _ _).setOn Finset.univ ⊆ commS 0 := fun j hj => by
    rw [own_mem] at hj
    simp only [commS, Finset.mem_filter, Finset.mem_univ, true_and]
    exact hj.1
  have hld : (Memref.whole cc0_scratch0 : Memref sig .tc .vmem S4x2048x2048 .bf16).view.setOn (rOwn k).toLoadRect.set ⊆ commS 0 := by
    exact ((setOn_whole cc0_scratch0 _).trans (own_mem_set k).symm).le.trans hsub
  iapply (wp_load 𝒱₀ (c : Thread nD τ) none Set.univ (m := Memref.whole cc0_scratch0) (S := commS 0) hld) $$ Hs; iintro Hs
  iapply (wp_store 𝒱₀ (c : Thread nD τ) none Set.univ (m := Memref.whole cc0_scratch0) (r := rOwn k) (Mk := Finset.univ) hsub) $$ Hs; iintro Hs
  iapply (wpc_ret c)
  iapply Hk
  isplitl [Hb]; · iexact Hb
  isplitl [Hx]; · iexact Hx
  isplitl [Hv]; · iexact Hv
  isplitl [Hs]
  · iexists (((Memref.whole cc0_scratch0).access (rOwn k) : View sig .tc _ _ _).write (Elt F) f (k0_pay30 (cX m c 3 k)) Finset.univ)
    isplitr
    · ipureintro
      exact own_done m c k f hf
    iexact Hs
  iexact HO

/-- And the read of the next piece started. -/
theorem ownPiece_spec (k : Fin 8) (Q : PUnit → sProp 𝕄) :
    iprop((inFly m c 3 k ∗ ownUpto m c k.val ∗ owesX c (OR c 3)) ∗ levAts L lv)
      ⊢ iprop(((inFly m c 3 (k + 1) ∗ ownUpto m c (k.val + 1) ∗ owesX c (OR c 3)) -∗ Q ⟨⟩) -∗ wpc c (ownPiece i c h1 k) Q) := by
  unfold ownPiece
  iintro H Hk
  iapply wpc_bind
  iapply (ownStore_spec m i c h1 k) $$ H
  iintro ⟨Hb, Hx, Hv, Hs, HO⟩
  iapply (inStart_spec m i c h1 3 (k + 1)) $$ [Hx Hb Hv]
  · isplitl [Hx]; · iexact Hx
    isplitl [Hb]; · iexists _; iexact Hb
    iexact Hv
  iintro Hf
  iapply Hk
  isplitl [Hf]; · iexact Hf
  isplitl [Hs] <;> iassumption

/-- The whole of it. -/
theorem ownSlab_spec (Q : PUnit → sProp 𝕄) :
    iprop((inFly m c 3 0 ∗ ownUpto m c 0 ∗ owesX c (OR c 3)) ∗ levAts L lv)
      ⊢ iprop((((∃ f, cbufP c f) ∗ xP m c ∗ sv c (convSem 0) ∗ commP c 0 (commG m c) ∗ owesX c 0) -∗ Q ⟨⟩) -∗ wpc c (ownSlab i c h1) Q) := by
  unfold ownSlab
  iintro ⟨H, #Hl⟩ Hk
  iapply wpc_bind
  iapply (ownPiece_spec m i c h1 0) $$ [H]
  · isplitl [H]; · iexact H
    iexact Hl
  iintro H
  iapply wpc_bind
  iapply (ownPiece_spec m i c h1 1) $$ [H]
  · isplitl [H]; · iexact H
    iexact Hl
  iintro H
  iapply wpc_bind
  iapply (ownPiece_spec m i c h1 2) $$ [H]
  · isplitl [H]; · iexact H
    iexact Hl
  iintro H
  iapply wpc_bind
  iapply (ownPiece_spec m i c h1 3) $$ [H]
  · isplitl [H]; · iexact H
    iexact Hl
  iintro H
  iapply wpc_bind
  iapply (ownPiece_spec m i c h1 4) $$ [H]
  · isplitl [H]; · iexact H
    iexact Hl
  iintro H
  iapply wpc_bind
  iapply (ownPiece_spec m i c h1 5) $$ [H]
  · isplitl [H]; · iexact H
    iexact Hl
  iintro H
  iapply wpc_bind
  iapply (ownPiece_spec m i c h1 6) $$ [H]
  · isplitl [H]; · iexact H
    iexact Hl
  iintro H
  iapply (ownStore_spec m i c h1 7) $$ [H]
  · isplitl [H]; · iexact H
    iexact Hl
  iintro ⟨Hb, Hx, Hv, Hs, HO⟩
  iapply Hk
  isplitl [Hb]; · iexists _; iexact Hb
  isplitl [Hx]; · iexact Hx
  isplitl [Hv]; · iexact Hv
  isplitl [Hs]
  · unfold ownUpto
    icases Hs with ⟨%f, %hf, Hs⟩
    have hs : commP c 0 f = commP c 0 (commG m c) := by
      unfold commP
      exact pointsTo_congr (fun j hj => hf j hj (by have : (j 1).val < 2048 := (j 1).isLt; show (j 1).val < 256 * (7 + 1); omega))
    iapply (Entails.of_eq hs) $$ Hs
  iexact HO

/-! ## The meeting -/

/-- One signal. -/
theorem signal_raw (K : Dev nD × Fin 7 → ℕ) (d : Fin 3) (n : Dev nD) (hn : n = c + backW d) (O : CellTallies nD τ sig Unit)
    {α : Type} {Q : α → sProp 𝕄} {k : PUnit → KProg F α} :
    iprop(sigKit m K c d ∗ (∃ f, commP c (slotOf d) f) ∗ reached ER (recvCell c (slotOf d)) 0 ∗ owesX c (O + oweB c d))
      ⊢ iprop((owesX c O -∗ wpc c (k ⟨⟩) Q) -∗ wpc c (semSignalWord n barrier0 1#32 >>= k) Q) := by
  subst hn
  unfold sigKit owesX semSignalWord
  simp only [Prog.lift, Prog.bind_op, Prog.bind_ret]
  iintro ⟨⟨#HI, Ht, #Hr⟩, Hf, #Hrv, ⟨%W, HO⟩⟩ Hk
  iapply (Rounds.wp_signal 𝒱₀ ER (rd m) (c : Thread nD τ) none (dst := ((c + backW d : Dev nD) : Thread nD τ)) (κ := K (c + backW d, 0))
      (d := d) (by rw [duties_bar]; exact Finset.mem_univ _) ((amount_bar m (c + backW d) d).trans (by decide)) () O rfl) $$ [HO Ht Hf]
  · isplitr; · iexact HI
    isplitl [HO]; · iexact HO
    isplitl [Ht]; · iexact Ht
    isplitl [Hf]
    · rw [payload_bar]; unfold barPay; rw [back_off]
      isplitl [Hf]; · iexact Hf
      iexact Hrv
    · iexact Hr
  iintro HO
  iapply Hk
  iexists W
  iexact HO

/-- The barrier: three signals given, three waited for, and the three slots received. -/
theorem meet_spec (K : Dev nD × Fin 7 → ℕ) (Q : PUnit → sProp 𝕄) :
    iprop(barKit m K c ∗ (sigKit m K c 0 ∗ sigKit m K c 1 ∗ sigKit m K c 2) ∗ ((∃ f, commP c 1 f) ∗ (∃ f, commP c 2 f) ∗ (∃ f, commP c 3 f))
        ∗ (reached ER (recvCell c 1) 0 ∗ reached ER (recvCell c 2) 0 ∗ reached ER (recvCell c 3) 0) ∗ owesX c (O₀ c) ∗ levAts L lv)
      ⊢ iprop((((barPay c 0 ∗ barPay c 1 ∗ barPay c 2) ∗ semVal (barCell c) 0 ∗ owesX c (OR c 0)) -∗ Q ⟨⟩) -∗ wpc c (meet i c h1) Q) := by
  unfold meet barKit
  iintro ⟨⟨#HI, Hat, Hc⟩, ⟨Hs0, Hs1, Hs2⟩, ⟨Hf1, Hf2, Hf3⟩, ⟨#Hr1, #Hr2, #Hr3⟩, HO, #Hl⟩ Hk
  iapply (signal_raw m c K 1 _ (Fin.ext (dev1_eq c)) (OR c 0 + oweB c 0 + oweB c 2)) $$ [Hs1 Hf1 HO]
  · isplitl [Hs1]; · iexact Hs1
    isplitl [Hf1]; · iexact Hf1
    isplitr; · iexact Hr1
    iexact HO
  iintro HO
  iapply (signal_raw m c K 2 _ (Fin.ext (dev2_eq c)) (OR c 0 + oweB c 0)) $$ [Hs2 Hf3 HO]
  · isplitl [Hs2]; · iexact Hs2
    isplitl [Hf3]; · iexact Hf3
    isplitr; · iexact Hr3
    iexact HO
  iintro HO
  iapply (signal_raw m c K 0 _ (Fin.ext (dev3_eq c)) (OR c 0)) $$ [Hs0 Hf2 HO]
  · isplitl [Hs0]; · iexact Hs0
    isplitl [Hf2]; · iexact Hf2
    isplitr; · iexact Hr2
    iexact HO
  unfold owesX semWaitWord
  iintro ⟨%W, HO⟩
  iapply (Rounds.wp_wait_rest_token 𝒱₀ ER (rd m) (c : Thread nD τ) none (κ := K (c, 0))
      (wpE_semWait_eq 𝒱₀ (c : Thread nD τ) none Set.univ) (Set.mem_univ _) () (O := OR c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hl
    iexact Hat
  iintro ⟨HO, Hat, -, Hpay⟩
  ihave Hp := (Entails.of_eq (rest_bar m c)) $$ Hpay
  rw [wp_ret]
  imod (Rounds.cell_close ER (rd m) (Set.mem_univ (K (c, 0))) (fun h => h) (R := 0 + 1) (duties_later m (barCell c))) $$ [Hat] with Hz
  · isplitr; · iexact HI
    iexact Hat
  imodintro
  iapply Hk
  isplitl [Hp]; · iexact Hp
  isplitl [Hz]; · iexact Hz
  iexists _
  iexact HO

/-! ## The whole exchange -/

/-- The whole exchange of the first point. -/
theorem exchange_spec (Q : PUnit → sProp 𝕄) :
    iprop(start m c ∗ ((∃ f, commP c 0 f) ∗ (∃ f, commP c 1 f) ∗ (∃ f, commP c 2 f) ∗ (∃ f, commP c 3 f))
        ∗ ((∃ f, slabP c 0 f) ∗ (∃ f, slabP c 1 f) ∗ (∃ f, slabP c 2 f)) ∗ xP m c ∗ (∃ f, cbufP c f) ∗ (∃ f, stageP c f)
        ∗ sv c (convSem 0) ∗ sv c (convSem 2) ∗ owesX c (O₀ c))
      ⊢ iprop(((semVal (barCell c) 0 ∗ (sendW m c 0 ∗ sendW m c 1 ∗ sendW m c 2) ∗ (recvW m c 1 ∗ recvW m c 2 ∗ recvW m c 3)
          ∗ ((∃ f, cbufP c f) ∗ (∃ f, stageP c f)) ∗ xP m c ∗ (sv c (convSem 0) ∗ sv c (convSem 2)) ∗ commP c 0 (commG m c) ∗ owesX c 0) -∗ Q ⟨⟩)
        -∗ wpc c (exchange i c h1) Q) := by
  unfold exchange start
  iintro ⟨⟨⟨%K, HbK, HsK, ⟨Hd0, Hd1, Hd2⟩⟩, HrW, Hrs, #Hl⟩, ⟨⟨%f0, Hc0⟩, Hc1, Hc2, Hc3⟩, ⟨⟨%s0, Hs0⟩, ⟨%s1, Hs1⟩, ⟨%s2, Hs2⟩⟩, Hx, Hb, Hg, Hv0, Hv2, HO⟩ Hk
  have z : ∀ (d : Fin 3) (f : S3x2048x2048.Idx → Elt F .bf16), slabP c d f ⊢ slabUpto m c d 0 := fun d f => by
    unfold slabUpto
    iintro H
    iexists f
    isplitr; · (ipureintro; intro j _ hj; omega)
    iexact H
  iapply wpc_bind
  iapply (meet_spec m i c h1 K) $$ [HbK HsK Hc1 Hc2 Hc3 Hrs HO]
  · isplitl [HbK]; · iexact HbK
    isplitl [HsK]; · iexact HsK
    isplitl [Hc1 Hc2 Hc3]
    · isplitl [Hc1]; · iexact Hc1
      isplitl [Hc2] <;> iassumption
    isplitl [Hrs]; · iexact Hrs
    isplitl [HO]; · iexact HO
    iexact Hl
  iintro ⟨⟨HB0, HB1, HB2⟩, Hz, HO⟩
  iapply wpc_bind
  iapply (inStart_spec m i c h1 0 0) $$ [Hx Hb Hv0]
  · isplitl [Hx]; · iexact Hx
    isplitl [Hb] <;> iassumption
  iintro Hf
  iapply wpc_bind
  iapply (slab_spec m i c h1 K 0) $$ [Hf Hs0 Hg Hv2 Hd0 HB0 HO]
  · isplitl [Hf]; · iexact Hf
    isplitl [Hs0]; · iapply (z 0 s0) $$ Hs0
    isplitl [Hg Hv2]; · isplitl [Hg] <;> iassumption
    isplitl [Hd0]; · iexact Hd0
    isplitl [HB0]; · iexact HB0
    isplitl [HO]; · iexact HO
    iexact Hl
  iintro ⟨Hf, Hg, HW0, HO⟩
  iapply wpc_bind
  iapply (slab_spec m i c h1 K 1) $$ [Hf Hs1 Hg Hd1 HB1 HO]
  · isplitl [Hf]; · iexact Hf
    isplitl [Hs1]; · iapply (z 1 s1) $$ Hs1
    isplitl [Hg]; · iexact Hg
    isplitl [Hd1]; · iexact Hd1
    isplitl [HB1]; · iexact HB1
    isplitl [HO]; · iexact HO
    iexact Hl
  iintro ⟨Hf, Hg, HW1, HO⟩
  iapply wpc_bind
  iapply (slab_spec m i c h1 K 2) $$ [Hf Hs2 Hg Hd2 HB2 HO]
  · isplitl [Hf]; · iexact Hf
    isplitl [Hs2]; · iapply (z 2 s2) $$ Hs2
    isplitl [Hg]; · iexact Hg
    isplitl [Hd2]; · iexact Hd2
    isplitl [HB2]; · iexact HB2
    isplitl [HO]; · iexact HO
    iexact Hl
  iintro ⟨Hf, ⟨Hg, Hv2⟩, HW2, HO⟩
  iapply (ownSlab_spec m i c h1) $$ [Hf Hc0 HO]
  · isplitl [Hf Hc0 HO]
    · isplitl [Hf]; · iexact Hf
      isplitl [Hc0]
      · unfold ownUpto
        iexists f0
        isplitr; · (ipureintro; intro j _ hj; omega)
        iexact Hc0
      iexact HO
    iexact Hl
  iintro ⟨Hb, Hx, Hv0, Hc0, HO⟩
  iapply Hk
  isplitl [Hz]; · iexact Hz
  isplitl [HW0 HW1 HW2]
  · isplitl [HW0]; · iexact HW0
    isplitl [HW1] <;> iassumption
  isplitl [HrW]; · iexact HrW
  isplitl [Hb Hg]; · isplitl [Hb] <;> iassumption
  isplitl [Hx]; · iexact Hx
  isplitl [Hv0 Hv2]; · isplitl [Hv0] <;> iassumption
  isplitl [Hc0] <;> iassumption

end Spec

end Cert.KernelIdeal.Exchange

end
-- ==== Proof.Offs.lean ====
/-
  Where a grid point reads and writes, and which of its steps it does, as numbers of the point: point `t` is round `t / 8`,
  column tile `t % 8`, and uses the slot `t % 2` of each buffer of two.
-/
module

public import proofs.«01_k».proof.Proof.Step
public import proofs.«01_k».proof.Proof.Contents

@[expose] public section

namespace Cert.KernelIdeal.Exchange

open Cert.KernelIdeal Cert.KernelIdeal.Gen
open Idealize.ShloMosaic

/-- The coordinates of a point. -/
abbrev cd (t : Fin 32) : grid0.Coords := grid0.coords t
/-- Only the first point opens. -/
theorem cond1_iff : ∀ t : Fin 32, k0_cond1 (cd t) = 1#1 ↔ t.val = 0 := by decide +kernel
/-- Every point but the last prefetches. -/
theorem cond5_iff : ∀ t : Fin 32, k0_cond5 (cd t) = 1#1 ↔ t.val < 31 := by decide +kernel
/-- From round 1 on the next point's accumulator tile is prefetched too. -/
theorem cond6_iff : ∀ t : Fin 32, k0_cond6 (cd t) = 1#1 ↔ 8 ≤ t.val + 1 := by decide +kernel
/-- From the third point on an output slot has to be waited for. -/
theorem cond7_iff : ∀ t : Fin 32, k0_cond7 (cd t) = 1#1 ↔ 2 ≤ t.val := by decide +kernel
/-- From round 1 on the accumulator tile has to be waited for. -/
theorem cond8_iff : ∀ t : Fin 32, k0_cond8 (cd t) = 1#1 ↔ 8 ≤ t.val := by decide +kernel
/-- Row tile 0 stores the product itself in round 0. -/
theorem cond9_iff : ∀ t : Fin 32, k0_cond9 (cd t) = 1#1 ↔ t.val / 8 = 0 := by decide +kernel
/-- Row tile 0 adds in rounds 1 and 2. -/
theorem cond10_iff : ∀ t : Fin 32, k0_cond10 (cd t) = 1#1 ↔ t.val / 8 ≠ 0 ∧ t.val / 8 ≠ 3 := by decide +kernel
/-- Row tile 0 adds and applies the activation in round 3. -/
theorem cond11_iff : ∀ t : Fin 32, k0_cond11 (cd t) = 1#1 ↔ t.val / 8 = 3 := by decide +kernel
/-- Row tile 1 stores the product itself in round 0. -/
theorem cond12_iff : ∀ t : Fin 32, k0_cond12 (cd t) = 1#1 ↔ t.val / 8 = 0 := by decide +kernel
/-- Row tile 1 adds in rounds 1 and 2. -/
theorem cond13_iff : ∀ t : Fin 32, k0_cond13 (cd t) = 1#1 ↔ t.val / 8 ≠ 0 ∧ t.val / 8 ≠ 3 := by decide +kernel
/-- Row tile 1 adds and applies the activation in round 3. -/
theorem cond14_iff : ∀ t : Fin 32, k0_cond14 (cd t) = 1#1 ↔ t.val / 8 = 3 := by decide +kernel
/-- Row tile 2 stores the product itself in round 0. -/
theorem cond15_iff : ∀ t : Fin 32, k0_cond15 (cd t) = 1#1 ↔ t.val / 8 = 0 := by decide +kernel
/-- Row tile 2 adds in rounds 1 and 2. -/
theorem cond16_iff : ∀ t : Fin 32, k0_cond16 (cd t) = 1#1 ↔ t.val / 8 ≠ 0 ∧ t.val / 8 ≠ 3 := by decide +kernel
/-- Row tile 2 adds and applies the activation in round 3. -/
theorem cond17_iff : ∀ t : Fin 32, k0_cond17 (cd t) = 1#1 ↔ t.val / 8 = 3 := by decide +kernel
/-- Row tile 3 stores the product itself in round 0. -/
theorem cond18_iff : ∀ t : Fin 32, k0_cond18 (cd t) = 1#1 ↔ t.val / 8 = 0 := by decide +kernel
/-- Row tile 3 adds in rounds 1 and 2. -/
theorem cond19_iff : ∀ t : Fin 32, k0_cond19 (cd t) = 1#1 ↔ t.val / 8 ≠ 0 ∧ t.val / 8 ≠ 3 := by decide +kernel
/-- Row tile 3 adds and applies the activation in round 3. -/
theorem cond20_iff : ∀ t : Fin 32, k0_cond20 (cd t) = 1#1 ↔ t.val / 8 = 3 := by decide +kernel
/-- Only the last point drains. -/
theorem cond21_iff : ∀ t : Fin 32, k0_cond21 (cd t) = 1#1 ↔ t.val = 31 := by decide +kernel
/-- Slot 1 is waited for at the first point of round 1. -/
theorem recv1_iff : ∀ t : Fin 32, recvCond (cd t) 1#32 = 1#1 ↔ t.val = 8 := by decide +kernel
/-- Slot 2 is waited for at the first point of round 2. -/
theorem recv2_iff : ∀ t : Fin 32, recvCond (cd t) 2#32 = 1#1 ↔ t.val = 16 := by decide +kernel
/-- Slot 3 is waited for at the first point of round 3. -/
theorem recv3_iff : ∀ t : Fin 32, recvCond (cd t) 3#32 = 1#1 ↔ t.val = 24 := by decide +kernel

/-- The first weight tile. -/
theorem off2_at : ∀ c : Dev nD, k0_off2 c = ![2048 * (c + ofs (rnd (0 / 8))).val, 512 * (ctl 0).val] := by decide +kernel
/-- The semaphore of the next point's weight tile. -/
theorem off3_at : ∀ t : Fin 32, k0_off3 (cd t) = ![(t.val + 1) % 2] := by decide +kernel
/-- The slot of the next point's weight tile. -/
theorem off4_at : ∀ t : Fin 32, k0_off4 (cd t) = ![(t.val + 1) % 2, 0, 0] := by decide +kernel
/-- The next point's weight tile. -/
theorem off5_at : ∀ t : Fin 32, t.val < 31 → ∀ c : Dev nD, k0_off5 (cd t) c = ![2048 * (c + ofs (rnd ((t.val + 1) / 8))).val, 512 * (ctl (t.val + 1)).val] := by decide +kernel
/-- The semaphore of the next point's accumulator tile. -/
theorem off6_at : ∀ t : Fin 32, k0_off6 (cd t) = ![(t.val + 1) % 2] := by decide +kernel
/-- The slot of the next point's accumulator tile. -/
theorem off7_at : ∀ t : Fin 32, k0_off7 (cd t) = ![(t.val + 1) % 2, 0, 0] := by decide +kernel
/-- The next point's accumulator tile. -/
theorem off8_at : ∀ t : Fin 32, k0_off8 (cd t) = ![0, 512 * (ctl (t.val + 1)).val] := by decide +kernel
/-- The semaphore of the output slot that is waited for. -/
theorem off9_at : ∀ t : Fin 32, k0_off9 (cd t) = ![t.val % 2] := by decide +kernel
/-- The semaphore of the point's weight tile. -/
theorem off12_at : ∀ t : Fin 32, k0_off12 (cd t) = ![t.val % 2] := by decide +kernel
/-- The slot of the point's weight tile. -/
theorem off13_at : ∀ t : Fin 32, k0_off13 (cd t) = ![t.val % 2, 0, 0] := by decide +kernel
/-- The semaphore of the point's accumulator tile. -/
theorem off15_at : ∀ t : Fin 32, k0_off15 (cd t) = ![t.val % 2] := by decide +kernel
/-- Where the point loads its weight tile. -/
theorem off18_at : ∀ t : Fin 32, k0_off18 (cd t) = ![t.val % 2, 0, 0] := by decide +kernel
/-- Row tile 0 reads these rows of its round's slot. -/
theorem off19_at : ∀ t : Fin 32, k0_off19 (cd t) = ![(rnd (t.val / 8)).val, 512 * (0 : Fin 4).val, 0] := by decide +kernel
/-- Row tile 1 reads these rows of its round's slot. -/
theorem off23_at : ∀ t : Fin 32, k0_off23 (cd t) = ![(rnd (t.val / 8)).val, 512 * (1 : Fin 4).val, 0] := by decide +kernel
/-- Row tile 2 reads these rows of its round's slot. -/
theorem off27_at : ∀ t : Fin 32, k0_off27 (cd t) = ![(rnd (t.val / 8)).val, 512 * (2 : Fin 4).val, 0] := by decide +kernel
/-- Row tile 3 reads these rows of its round's slot. -/
theorem off31_at : ∀ t : Fin 32, k0_off31 (cd t) = ![(rnd (t.val / 8)).val, 512 * (3 : Fin 4).val, 0] := by decide +kernel
/-- Row tile 0, round 0: where it stores, in the point's output slot. -/
theorem off20_at : ∀ t : Fin 32, k0_off20 (cd t) = ![t.val % 2, 512 * (0 : Fin 4).val, 0] := by decide +kernel
/-- Row tile 0, rounds 1 and 2: its rows in the point's slots. -/
theorem off21_at : ∀ t : Fin 32, k0_off21 (cd t) = ![t.val % 2, 512 * (0 : Fin 4).val, 0] := by decide +kernel
/-- Row tile 0, round 3: its rows in the point's slots. -/
theorem off22_at : ∀ t : Fin 32, k0_off22 (cd t) = ![t.val % 2, 512 * (0 : Fin 4).val, 0] := by decide +kernel
/-- Row tile 1, round 0: where it stores, in the point's output slot. -/
theorem off24_at : ∀ t : Fin 32, k0_off24 (cd t) = ![t.val % 2, 512 * (1 : Fin 4).val, 0] := by decide +kernel
/-- Row tile 1, rounds 1 and 2: its rows in the point's slots. -/
theorem off25_at : ∀ t : Fin 32, k0_off25 (cd t) = ![t.val % 2, 512 * (1 : Fin 4).val, 0] := by decide +kernel
/-- Row tile 1, round 3: its rows in the point's slots. -/
theorem off26_at : ∀ t : Fin 32, k0_off26 (cd t) = ![t.val % 2, 512 * (1 : Fin 4).val, 0] := by decide +kernel
/-- Row tile 2, round 0: where it stores, in the point's output slot. -/
theorem off28_at : ∀ t : Fin 32, k0_off28 (cd t) = ![t.val % 2, 512 * (2 : Fin 4).val, 0] := by decide +kernel
/-- Row tile 2, rounds 1 and 2: its rows in the point's slots. -/
theorem off29_at : ∀ t : Fin 32, k0_off29 (cd t) = ![t.val % 2, 512 * (2 : Fin 4).val, 0] := by decide +kernel
/-- Row tile 2, round 3: its rows in the point's slots. -/
theorem off30_at : ∀ t : Fin 32, k0_off30 (cd t) = ![t.val % 2, 512 * (2 : Fin 4).val, 0] := by decide +kernel
/-- Row tile 3, round 0: where it stores, in the point's output slot. -/
theorem off32_at : ∀ t : Fin 32, k0_off32 (cd t) = ![t.val % 2, 512 * (3 : Fin 4).val, 0] := by decide +kernel
/-- Row tile 3, rounds 1 and 2: its rows in the point's slots. -/
theorem off33_at : ∀ t : Fin 32, k0_off33 (cd t) = ![t.val % 2, 512 * (3 : Fin 4).val, 0] := by decide +kernel
/-- Row tile 3, round 3: its rows in the point's slots. -/
theorem off34_at : ∀ t : Fin 32, k0_off34 (cd t) = ![t.val % 2, 512 * (3 : Fin 4).val, 0] := by decide +kernel
/-- The tile of the result that the point writes back. -/
theorem off35_at : ∀ t : Fin 32, k0_off35 (cd t) = ![0, 512 * (ctl t.val).val] := by decide +kernel
/-- The first output slot drained. -/
theorem off36_at : ∀ t : Fin 32, t.val = 31 → k0_off36 (cd t) = ![0] := by decide +kernel
/-- The last output slot drained. -/
theorem off39_at : ∀ t : Fin 32, t.val = 31 → k0_off39 (cd t) = ![1] := by decide +kernel
end Cert.KernelIdeal.Exchange
-- ==== Proof.Tiles.lean ====
/-
  The steps of a grid point: the copies of tiles in and out, and the product of a point row tile by row tile, at a symbolic
  slot, tile and round.
-/
module

public import proofs.«01_k».proof.Proof.Trade
public import proofs.«01_k».proof.Proof.Offs

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## What the steps hold -/

/-- Slot `p` of the buffer of weight tiles. -/
def wP (c : Dev nD) (p : Fin 2) (f : S2x2048x512.Idx → Elt F .f32) : sProp 𝕄 := iprop((c : Thread nD τ).loc cc0_scratch1 ↦[slotS p]{fullShare} f)
/-- Slot `p` of the buffer of tiles read back. -/
def aP (c : Dev nD) (p : Fin 2) (f : S2x2048x512.Idx → Elt F .f32) : sProp 𝕄 := iprop((c : Thread nD τ).loc cc0_scratch2 ↦[slotS p]{fullShare} f)
/-- Slot `p` of the buffer of tiles computed. -/
def oP (c : Dev nD) (p : Fin 2) (f : S2x2048x512.Idx → Elt F .f32) : sProp 𝕄 := iprop((c : Thread nD τ).loc cc0_scratch3 ↦[slotS p]{fullShare} f)
/-- Column tile `n` of the result. -/
def outP (c : Dev nD) (n : Fin 8) (f : S2048x4096.Idx → Elt F .f32) : sProp 𝕄 := iprop((c : Thread nD τ).loc main_v1_0 ↦[tileS n]{fullShare} f)
/-- The half of the weights that reads into slot `p` take. -/
def hsh (p : Fin 2) : PosShare TreeShare := if p = 0 then fullShare.left else fullShare.right
/-- The share of the weights that a copy into slot `p` reads from. -/
def w1P (c : Dev nD) (p : Fin 2) : sProp 𝕄 := iprop((c : Thread nD τ).loc main_arg1 ↦{hsh p} wv m c)

/-- A semaphore of a pair is inside it. -/
theorem inb_pair (p : Fin 2) : InbSem ![p.val] := by revert p; decide
/-- The semaphores of the copies into and out of the slots. -/
abbrev wsem (p : Fin 2) : DmaSem sig := sem2 cc0_scratch9 ![p.val] (inb_pair p)
/-- The semaphore of an accumulator slot. -/
abbrev asem (p : Fin 2) : DmaSem sig := sem2 cc0_scratch10 ![p.val] (inb_pair p)
/-- The semaphore of an output slot. -/
abbrev osem' (p : Fin 2) : DmaSem sig := sem2 cc0_scratch11 ![p.val] (inb_pair p)

/-- A slot of two is inside its buffer. -/
theorem inb_slot2 (p : Fin 2) : InbSlot ![p.val, 0, 0] := by revert p; decide
/-- What a tile's copy credits. -/
abbrev Nw : ℕ := (wSlot ![0, 0, 0] (inb_slot2 0)).view.dmaCredit
/-- It credits something. -/
theorem Nw_pos : 0 < Nw := View.dmaCredit_pos _ (by decide)

/-! ## The copies -/

section Copies

variable (c : Dev nD) (p : Fin 2)
  (os : Fin 1 → ℕ) (hs : InbSem os) (es : os = ![p.val]) (ob : Fin 3 → ℕ) (hb : InbSlot ob) (eb : ob = ![p.val, 0, 0])
include es

/-- Starting the copy of a weight tile. -/
theorem wStart_spec (eb : ob = ![p.val, 0, 0]) (k : Fin 4) (n : Fin 8) (ot : Fin 2 → ℕ) (ht : InbW ot) (et : ot = ![2048 * (c + ofs k).val, 512 * n.val]) (Q : PUnit → sProp 𝕄) :
    iprop(w1P m c p ∗ (∃ f, wP c p f) ∗ sv c (wsem p))
      ⊢ iprop((Fly c (.dma (wsem p)) Nw iprop(wP c p (slotC (wtile m c k n)) ∗ w1P m c p) -∗ Q ⟨⟩) -∗ wpc c (wStart os hs ob hb ot ht) Q) := by
  subst es
  unfold wStart Prog.lift wP w1P
  iintro ⟨Hw, ⟨%f, Hb⟩, Hv⟩ Hk
  iapply (start_copy c (src := wTile ot ht) (dst := wSlot ob hb) (fs := wv m c) (fd := f) (G := slotC (wtile m c k n)) (T := Finset.univ)
    (Sd := slotS p) Nw rfl Nw_pos (Finset.subset_univ _) (by rw [wSlot_set ob hb p eb])
    (by rw [wSlot_read ob hb p eb, wTile_read ot ht (c + ofs k) n et]; rfl)
    (fun j hj hn => absurd (by rw [wSlot_set ob hb p eb]; exact hj) hn)) $$ [Hw Hb Hv]
  · isplitl [Hw]; · iexact Hw
    isplitl [Hb] <;> iassumption
  iintro Hf
  iapply (wpc_ret c)
  iapply Hk
  iexact Hf

/-- Waiting for it. -/
theorem wWait_spec (ot : Fin 2 → ℕ) (ht : InbW ot) (P : sProp 𝕄) (Q : PUnit → sProp 𝕄) :
    iprop(Fly c (.dma (wsem p)) Nw P ∗ owesX c 0) ⊢ iprop(((P ∗ sv c (wsem p) ∗ owesX c 0) -∗ Q ⟨⟩) -∗ wpc c (wWait os hs ob hb ot ht) Q) := by
  subst es
  unfold wWait Prog.lift
  iintro H Hk
  iapply (wait_copy0 c (N := Nw) (rfl : (wSlot ob hb).view.dmaCredit = Nw)) $$ H
  iintro H
  iapply (wpc_ret c)
  iapply Hk
  iexact H

/-- Starting the copy of an accumulator tile. -/
theorem aStart_spec (eb : ob = ![p.val, 0, 0]) (n : Fin 8) (ot : Fin 2 → ℕ) (ht : InbT ot) (et : ot = ![0, 512 * n.val]) (f : S2048x4096.Idx → Elt F .f32) (Q : PUnit → sProp 𝕄) :
    iprop(outP c n f ∗ (∃ f, aP c p f) ∗ sv c (asem p))
      ⊢ iprop((Fly c (.dma (asem p)) Nw iprop(aP c p (slotC (tv f n)) ∗ outP c n f) -∗ Q ⟨⟩) -∗ wpc c (aStart os hs ob hb ot ht) Q) := by
  subst es
  unfold aStart Prog.lift aP outP
  iintro ⟨Hw, ⟨%g, Hb⟩, Hv⟩ Hk
  iapply (start_copy c (src := oTile ot ht) (dst := aSlot ob hb) (fs := f) (fd := g) (G := slotC (tv f n)) (T := tileS n)
    (Sd := slotS p) Nw rfl Nw_pos (by rw [oTile_set ot ht n et]) (by rw [aSlot_set ob hb p eb])
    (by rw [aSlot_read ob hb p eb, oTile_read ot ht n et]; rfl)
    (fun j hj hn => absurd (by rw [aSlot_set ob hb p eb]; exact hj) hn)) $$ [Hw Hb Hv]
  · isplitl [Hw]; · iexact Hw
    isplitl [Hb] <;> iassumption
  iintro Hf
  iapply (wpc_ret c)
  iapply Hk
  iexact Hf

/-- Waiting for it. -/
theorem aWait_spec (ot : Fin 2 → ℕ) (ht : InbT ot) (P : sProp 𝕄) (Q : PUnit → sProp 𝕄) :
    iprop(Fly c (.dma (asem p)) Nw P ∗ owesX c 0) ⊢ iprop(((P ∗ sv c (asem p) ∗ owesX c 0) -∗ Q ⟨⟩) -∗ wpc c (aWait os hs ob hb ot ht) Q) := by
  subst es
  unfold aWait Prog.lift
  iintro H Hk
  iapply (wait_copy0 c (N := Nw) (rfl : (aSlot ob hb).view.dmaCredit = Nw)) $$ H
  iintro H
  iapply (wpc_ret c)
  iapply Hk
  iexact H

/-- Starting the write-back of an output tile. -/
theorem oStart_spec (eb : ob = ![p.val, 0, 0]) (n : Fin 8) (ot : Fin 2 → ℕ) (ht : InbT ot) (et : ot = ![0, 512 * n.val]) (f G : S2048x4096.Idx → Elt F .f32) (Q : PUnit → sProp 𝕄) :
    iprop(oP c p (slotC (tv G n)) ∗ outP c n f ∗ sv c (osem' p))
      ⊢ iprop((Fly c (.dma (osem' p)) Nw iprop(outP c n G ∗ ∃ f, oP c p f) -∗ Q ⟨⟩) -∗ wpc c (oStart os hs ob hb ot ht) Q) := by
  subst es
  unfold oStart Prog.lift oP outP
  iintro ⟨Hb, Hw, Hv⟩ Hk
  iapply (start_copy c (src := oSlot ob hb) (dst := oTile ot ht) (fs := slotC (tv G n)) (fd := f) (G := G) (T := slotS p)
    (Sd := tileS n) Nw rfl Nw_pos (by rw [oSlot_set ob hb p eb]) (by rw [oTile_set ot ht n et])
    (by rw [oSlot_read ob hb p eb, oTile_read ot ht n et]; rfl)
    (fun j hj hn => absurd (by rw [oTile_set ot ht n et]; exact hj) hn)) $$ [Hw Hb Hv]
  · isplitl [Hb]; · iexact Hb
    isplitl [Hw] <;> iassumption
  iintro Hf
  iapply (wpc_ret c)
  iapply Hk
  iapply (Fly_mono c _ _ ?_) $$ Hf
  iintro ⟨Hw, Hb⟩
  isplitl [Hw]; · iexact Hw
  iexists _; iexact Hb

/-- Waiting for it. -/
theorem oWait_spec (ot : Fin 2 → ℕ) (ht : InbT ot) (P : sProp 𝕄) (Q : PUnit → sProp 𝕄) :
    iprop(Fly c (.dma (osem' p)) Nw P ∗ owesX c 0) ⊢ iprop(((P ∗ sv c (osem' p) ∗ owesX c 0) -∗ Q ⟨⟩) -∗ wpc c (oWait os hs ob hb ot ht) Q) := by
  subst es
  unfold oWait Prog.lift
  iintro H Hk
  iapply (wait_copy0 c (N := Nw) (rfl : (oTile ot ht).view.dmaCredit = Nw)) $$ H
  iintro H
  iapply (wpc_ret c)
  iapply Hk
  iexact H

end Copies

/-! ## The waits on the shared cells -/

/-- Waiting for a landed slot. -/
theorem recvWait_spec (c : Dev nD) (s : Fin 4) (hs : s ≠ 0) (Q : PUnit → sProp 𝕄) :
    iprop(recvW m c s ∗ owesX c 0) ⊢ iprop(((commP c s (commG m c) ∗ sv c (recvSem s) ∗ owesX c 0) -∗ Q ⟨⟩) -∗ wpc c (recvWait s) Q) := by
  unfold recvWait Prog.lift recvW owesX
  iintro ⟨⟨%κ, #HI, Hat, Hc⟩, ⟨%W, HO⟩⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c s hs])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c s hs)) $$ Hpay
  rw [wp_ret]
  imod (Rounds.cell_close ER (rd m) (Set.mem_univ κ) (fun h => h) (R := 0 + 1) (duties_later m (recvCell c s))) $$ [Hat] with Hz
  · isplitr; · iexact HI
    iexact Hat
  imodintro
  iapply Hk
  unfold recvPay
  isplitl [Hp]; · iexact Hp
  isplitl [Hz]; · iexact Hz
  iexists _
  iexact HO

/-- Waiting for a slab to have been read out. -/
theorem sendWait_spec (c : Dev nD) (d : Fin 3) (Q : PUnit → sProp 𝕄) :
    iprop(sendW m c d ∗ owesX c 0) ⊢ iprop(((slabP c d (x16G m c) ∗ sv c (sendSem d) ∗ owesX c 0) -∗ Q ⟨⟩) -∗ wpc c (sendWait d) Q) := by
  unfold sendWait Prog.lift sendW owesX
  iintro ⟨⟨%κ, #HI, Hat, Hc⟩, ⟨%W, HO⟩⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c d)) $$ Hpay
  rw [wp_ret]
  imod (Rounds.cell_close ER (rd m) (Set.mem_univ κ) (fun h => h) (R := 0 + 1) (duties_later m (sendCell c d))) $$ [Hat] with Hz
  · isplitr; · iexact HI
    iexact Hat
  imodintro
  iapply Hk
  unfold sendPay
  isplitl [Hp]; · iexact Hp
  isplitl [Hz]; · iexact Hz
  iexists _
  iexact HO

/-! ## The product -/

/-- A conditional step that is done. -/
theorem doIf_pos {α : Type} {b : BitVec 1} (h : b = 1#1) (p : b = 1#1 → KProg F PUnit) (k : KProg F α) : doIf b p k = (p h >>= fun _ => k) := dif_pos h
/-- One that is not. -/
theorem doIf_neg {α : Type} {b : BitVec 1} (h : ¬ b = 1#1) (p : b = 1#1 → KProg F PUnit) (k : KProg F α) : doIf b p k = k := dif_neg h

section Product

variable (c : Dev nD) (p : Fin 2)

/-- A slot of which the first `q` row tiles are computed. -/
def oUpto (B : S2048x512.Idx → Elt F .f32) (q : ℕ) : sProp 𝕄 :=
  iprop(∃ f, ⌜∀ i ∈ slotS p, (i 1).val < 512 * q → f i = slotC B i⌝ ∗ oP c p f)

/-- Which entries a row tile has. -/
theorem row_mem (q : Fin 4) (h : InbRow ![p.val, 512 * q.val, 0]) (j : S2x2048x512.Idx) :
    j ∈ (Rect.unit (s := S2x2048x512) ![p.val, 512 * q.val, 0] S1x512x512.size h).set ↔ (j 0).val = p.val ∧ 512 * q.val ≤ (j 1).val ∧ (j 1).val < 512 * q.val + 512 := by
  refine (mem_box _ _ j).trans ?_
  have h2 : (j 2).val < 512 := (j 2).isLt
  show (j 0).val = p.val ∧ (512 * q.val ≤ (j 1).val ∧ (j 1).val < 512 * q.val + 512) ∧ 0 ≤ (j 2).val ∧ (j 2).val < 0 + 512 ↔ _
  omega

/-- A row tile is inside its slot. -/
theorem row_sub (q : Fin 4) (h : InbRow ![p.val, 512 * q.val, 0]) : (Rect.unit (s := S2x2048x512) ![p.val, 512 * q.val, 0] S1x512x512.size h).set ⊆ slotS p := fun j hj => by
  simp only [slotS, Finset.mem_filter, Finset.mem_univ, true_and]
  exact ((row_mem p q h j).mp hj).1

/-- Where an entry of a row tile is. -/
theorem row_emb (q : Fin 4) (h : InbRow ![p.val, 512 * q.val, 0]) (y : S1x512x512.Idx) :
    (Rect.unit (s := S2x2048x512) ![p.val, 512 * q.val, 0] S1x512x512.size h).emb y = (ix3 p (rowQ q (y 1)) (y 2) : S2x2048x512.Idx) :=
  emb_box ![p.val, 512 * q.val, 0] h y (ix3 p (rowQ q (y 1)) (y 2)) rfl rfl (Nat.zero_add _).symm

/-- The rows of a tile read back, loaded. -/
theorem rowLoadA_spec (q : Fin 4) (o : Fin 3 → ℕ) (h : InbRow o) (eo : o = ![p.val, 512 * q.val, 0]) (A : S2048x512.Idx → Elt F .f32)
    (Q : Vec F S1x512x512 .f32 → sProp 𝕄) :
    aP c p (slotC A) ⊢ iprop((aP c p (slotC A) -∗ Q (rt A q)) -∗ wpc c (rowLoadA o h) Q) := by
  subst eo
  unfold rowLoadA Prog.lift aP
  iintro Hb Hk
  iapply (wp_load 𝒱₀ (c : Thread nD τ) none Set.univ (m := Memref.whole cc0_scratch2) (S := slotS p)
    (((setOn_whole cc0_scratch2 _).le).trans (row_sub p q h))) $$ Hb; iintro Hb
  iapply (wpc_ret c)
  rw [show (Memref.whole cc0_scratch2 : Memref sig .tc .vmem S2x2048x512 .f32).view.readAt (Elt F)
      (Rect.unit (s := S2x2048x512) ![p.val, 512 * q.val, 0] S1x512x512.size h).toLoadRect (slotC A) = rt A q from
    funext fun y => congrArg (slotC A) (row_emb p q h y)]
  iapply Hk
  iexact Hb

/-- A row tile stored. -/
theorem rowStore_spec (q : Fin 4) (o : Fin 3 → ℕ) (h : InbRow o) (eo : o = ![p.val, 512 * q.val, 0]) (B : S2048x512.Idx → Elt F .f32) (v : Vec F S1x512x512 .f32)
    (hv : ∀ a b, v (ix3 0 a b) = B (ix2 (rowQ q a) b)) (Q : PUnit → sProp 𝕄) :
    oUpto c p B q.val ⊢ iprop((oUpto c p B (q.val + 1) -∗ Q ⟨⟩) -∗ wpc c (rowStore o h v) Q) := by
  subst eo
  unfold rowStore oUpto oP
  simp only [Prog.lift, Prog.bind_op, Prog.bind_ret]
  iintro ⟨%f, %hf, Hb⟩ Hk
  iapply (wp_load 𝒱₀ (c : Thread nD τ) none Set.univ (m := Memref.whole cc0_scratch3) (S := slotS p)
    (((setOn_whole cc0_scratch3 _).le).trans (row_sub p q h))) $$ Hb; iintro Hb
  have hset : ((Memref.whole cc0_scratch3).access (Rect.unit (s := S2x2048x512) ![p.val, 512 * q.val, 0] S1x512x512.size h) : View sig .tc _ _ _).setOn Finset.univ
      = (Rect.unit (s := S2x2048x512) ![p.val, 512 * q.val, 0] S1x512x512.size h).set := by
    rw [View.setOn_univ, View.set_slice_whole]
  iapply (wp_store 𝒱₀ (c : Thread nD τ) none Set.univ (m := Memref.whole cc0_scratch3) (S := slotS p)
    (r := Rect.unit (s := S2x2048x512) ![p.val, 512 * q.val, 0] S1x512x512.size h) (Mk := Finset.univ) (hset.le.trans (row_sub p q h))) $$ Hb; iintro Hb
  iapply (wpc_ret c)
  iapply Hk
  iexists (((Memref.whole cc0_scratch3).access (Rect.unit (s := S2x2048x512) ![p.val, 512 * q.val, 0] S1x512x512.size h) : View sig .tc _ _ _).write (Elt F) f v Finset.univ)
  isplitr
  · ipureintro
    intro j hj hlt
    by_cases hm : j ∈ ((Memref.whole cc0_scratch3).access (Rect.unit (s := S2x2048x512) ![p.val, 512 * q.val, 0] S1x512x512.size h) : View sig .tc _ _ _).setOn Finset.univ
    · have hm' := hm
      rw [hset, row_mem] at hm'
      obtain ⟨h0, h1, h2⟩ := hm'
      have he : ((Memref.whole cc0_scratch3).access (Rect.unit (s := S2x2048x512) ![p.val, 512 * q.val, 0] S1x512x512.size h) : View sig .tc _ _ _).emb
          (ix3 0 ⟨(j 1).val - 512 * q.val, by omega⟩ (j 2) : S1x512x512.Idx) = j :=
        emb_box ![p.val, 512 * q.val, 0] h _ j h0 (by show (j 1).val = 512 * q.val + ((j 1).val - 512 * q.val); omega) (Nat.zero_add _).symm
      have := View.write_emb (Val := Elt F) (v := ((Memref.whole cc0_scratch3).access (Rect.unit (s := S2x2048x512) ![p.val, 512 * q.val, 0] S1x512x512.size h) : View sig .tc _ _ _))
        f v Finset.univ (ix3 0 ⟨(j 1).val - 512 * q.val, by omega⟩ (j 2))
      rw [he] at this
      refine this.trans ((if_pos (Finset.mem_univ _)).trans ((hv _ _).trans ?_))
      show B _ = B (ix2 (j 1) (j 2))
      exact congrArg B (idx2_ext (by show 512 * q.val + ((j 1).val - 512 * q.val) = (j 1).val; omega) rfl)
    · rw [View.write_of_not_mem _ _ _ hm]
      rw [hset, row_mem] at hm
      have h0 : (j 0).val = p.val := by simpa [slotS] using hj
      exact hf j hj (by omega)
  iexact Hb

/-- What a point's tile is, row tile by row tile. -/
theorem tstep_row (k : ℕ) (hk : k < 4) (n : Fin 8) (A : S2048x512.Idx → Elt F .f32) (q : Fin 4) (a b : Fin 512) :
    stepv k (ld (wtile m c (rnd k) n)) (xt m c (rnd k) q) (rt A q) (ix3 0 a b) = tstep m c k n A (ix2 (rowQ q a) b) := by
  have hq : (⟨(rowQ q a).val / 512, by have := (rowQ q a).isLt; omega⟩ : Fin 4) = q := Fin.ext (by show (512 * q.val + a.val) / 512 = q.val; omega)
  have ha : (⟨(rowQ q a).val % 512, Nat.mod_lt _ (by decide)⟩ : Fin 512) = a := Fin.ext (by show (512 * q.val + a.val) % 512 = a.val; omega)
  show _ = stepv k (ld (wtile m c (rnd k) n)) (xt m c (rnd k) ⟨(rowQ q a).val / 512, _⟩) (rt A ⟨(rowQ q a).val / 512, _⟩) (ix3 0 ⟨(rowQ q a).val % 512, _⟩ b)
  rw [hq, ha]

end Product

end Cert.KernelIdeal.Exchange

end
-- ==== Proof.Product.lean ====
/-
  The product of a grid point: the four row tiles, in the three cases of the round.
-/
module

public import proofs.«01_k».proof.Proof.Tiles

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (p : Fin 2)

/-- The slot of a tile read back: in the first round whatever it holds. -/
def aX (k : ℕ) (A : S2048x512.Idx → Elt F .f32) : sProp 𝕄 := iprop(∃ g, ⌜k ≠ 0 → g = slotC A⌝ ∗ aP c p g)

/-- A row tile of a slot is inside the slot. -/
theorem comm_sub (s q : Fin 4) (h : ∀ a, (![s.val, 512 * q.val, 0] : Fin 3 → ℕ) a + S1x512x2048.size a ≤ S4x2048x2048.size a) :
    (Rect.unit (s := S4x2048x2048) ![s.val, 512 * q.val, 0] S1x512x2048.size h).set ⊆ commS s := fun j hj => by
  simp only [commS, Finset.mem_filter, Finset.mem_univ, true_and]
  exact ((mem_box _ _ j).mp hj).1

/-- One row tile, in the round `k`. -/
theorem rowTile_spec {α : Type} (k : ℕ) (hk : k < 4) (n : Fin 8) (q : Fin 4) (q₁ : ℕ) (hq₁ : q₁ = q.val + 1) (A : S2048x512.Idx → Elt F .f32)
    (ox : Fin 3 → ℕ) (hx : ∀ a, ox a + S1x512x2048.size a ≤ S4x2048x2048.size a) (ex : ox = ![(rnd k).val, 512 * q.val, 0])
    (b₁ b₂ b₃ : BitVec 1) (e₁ : b₁ = 1#1 ↔ k = 0) (e₂ : b₂ = 1#1 ↔ k ≠ 0 ∧ k ≠ 3) (e₃ : b₃ = 1#1 ↔ k = 3)
    (o₁ o₂ o₃ : Fin 3 → ℕ) (h₁ : b₁ = 1#1 → InbRow o₁) (h₂ : b₂ = 1#1 → InbRow o₂) (h₃ : b₃ = 1#1 → InbRow o₃)
    (eo₁ : o₁ = ![p.val, 512 * q.val, 0]) (eo₂ : o₂ = ![p.val, 512 * q.val, 0]) (eo₃ : o₃ = ![p.val, 512 * q.val, 0])
    (rest : KProg F α) (Q : α → sProp 𝕄) :
    iprop(commP c (rnd k) (commG m c) ∗ aX c p k A ∗ oUpto c p (tstep m c k n A) q.val)
      ⊢ iprop(((commP c (rnd k) (commG m c) ∗ aX c p k A ∗ oUpto c p (tstep m c k n A) q₁) -∗ wpc c rest Q)
        -∗ wpc c (rowTile (ld (wtile m c (rnd k) n)) ox hx b₁ b₂ b₃ o₁ o₂ o₃ h₁ h₂ h₃ rest) Q) := by
  subst ex hq₁
  unfold rowTile
  simp only [Prog.lift, Prog.bind_op, Prog.bind_ret]
  unfold commP
  iintro ⟨Hx, Ha, Ho⟩ Hk
  iapply (wp_load 𝒱₀ (c : Thread nD τ) none Set.univ (m := Memref.whole cc0_scratch0) (S := commS (rnd k))
    (((setOn_whole cc0_scratch0 _).le).trans (comm_sub (rnd k) q hx))) $$ Hx; iintro Hx
  rw [show (Memref.whole cc0_scratch0 : Memref sig .tc .vmem S4x2048x2048 .bf16).view.readAt (Elt F)
      (Rect.unit (s := S4x2048x2048) ![(rnd k).val, 512 * q.val, 0] S1x512x2048.size hx).toLoadRect (commG m c) = xt m c (rnd k) q from
    funext fun y => congrArg (commG m c) (emb_box ![(rnd k).val, 512 * q.val, 0] hx y (ix3 (rnd k) (rowQ q (y 1)) (y 2)) rfl rfl (Nat.zero_add _).symm)]
  by_cases hk0 : k = 0
  · rw [doIf_pos (e₁.mpr hk0), doIf_neg (fun h => (e₂.mp h).1 hk0), doIf_neg (fun h => absurd (e₃.mp h) (by omega))]
    iapply wpc_bind
    iapply (rowStore_spec c p q _ _ eo₁ (tstep m c k n A) _ (fun a b => by
      rw [← tstep_row m c k hk n A q a b]; unfold stepv; rw [if_pos hk0])) $$ Ho
    iintro Ho
    iapply Hk
    isplitl [Hx]; · iexact Hx
    isplitl [Ha] <;> iassumption
  · unfold aX
    icases Ha with ⟨%g, %hg, Ha⟩
    obtain rfl := hg hk0
    rw [doIf_neg (fun h => hk0 (e₁.mp h))]
    by_cases hk3 : k = 3
    · rw [doIf_neg (fun h => (e₂.mp h).2 hk3), doIf_pos (e₃.mpr hk3), Prog.bind_assoc]
      iapply wpc_bind
      iapply (rowLoadA_spec c p q _ _ eo₃ A) $$ Ha
      iintro Ha
      iapply wpc_bind
      iapply (rowStore_spec c p q _ _ eo₃ (tstep m c k n A) _ (fun a b => by
        rw [← tstep_row m c k hk n A q a b]; unfold stepv; rw [if_neg hk0, if_pos hk3])) $$ Ho
      iintro Ho
      iapply Hk
      isplitl [Hx]; · iexact Hx
      isplitl [Ha]
      · iexists (slotC A); isplitr; · (ipureintro; exact fun _ => rfl)
        iexact Ha
      iexact Ho
    · rw [doIf_pos (e₂.mpr ⟨hk0, hk3⟩), doIf_neg (fun h => hk3 (e₃.mp h)), Prog.bind_assoc]
      iapply wpc_bind
      iapply (rowLoadA_spec c p q _ _ eo₂ A) $$ Ha
      iintro Ha
      iapply wpc_bind
      iapply (rowStore_spec c p q _ _ eo₂ (tstep m c k n A) _ (fun a b => by
        rw [← tstep_row m c k hk n A q a b]; unfold stepv; rw [if_neg hk0, if_neg hk3])) $$ Ho
      iintro Ho
      iapply Hk
      isplitl [Hx]; · iexact Hx
      isplitl [Ha]
      · iexists (slotC A); isplitr; · (ipureintro; exact fun _ => rfl)
        iexact Ha
      iexact Ho

/-- The slot that point `t` uses. -/
abbrev par (t : ℕ) : Fin 2 := ⟨t % 2, Nat.mod_lt _ (by decide)⟩

/-- The product of point `t`: the tile computed is in its slot. -/
theorem compute_spec {α : Type} (t : Fin 32) (A : S2048x512.Idx → Elt F .f32) (rest : KProg F α) (Q : α → sProp 𝕄) :
    iprop(wP c (par t.val) (slotC (wtile m c (rnd (t.val / 8)) (ctl t.val))) ∗ commP c (rnd (t.val / 8)) (commG m c) ∗ aX c (par t.val) (t.val / 8) A ∗ (∃ f, oP c (par t.val) f))
      ⊢ iprop(((wP c (par t.val) (slotC (wtile m c (rnd (t.val / 8)) (ctl t.val))) ∗ commP c (rnd (t.val / 8)) (commG m c) ∗ aX c (par t.val) (t.val / 8) A
            ∗ oP c (par t.val) (slotC (tstep m c (t.val / 8) (ctl t.val) A))) -∗ wpc c rest Q)
        -∗ wpc c (compute (cd t) rest) Q) := by
  have hk : t.val / 8 < 4 := by omega
  unfold compute
  simp only [Prog.lift, Prog.bind_op, Prog.bind_ret]
  iintro ⟨Hw, Hx, Ha, ⟨%f, Ho⟩⟩ Hk
  have hsub : ∀ (o : Fin 3 → ℕ) (h : InbSlot o), o = ![(par t.val).val, 0, 0] → (Rect.unit (s := S2x2048x512) o S1x2048x512.size h).set ⊆ slotS (par t.val) := fun o h eo j hj => by
    subst eo
    simp only [slotS, Finset.mem_filter, Finset.mem_univ, true_and]
    exact ((mem_box _ _ j).mp hj).1
  have hrd : ∀ (o : Fin 3 → ℕ) (h : InbSlot o), o = ![(par t.val).val, 0, 0] → ∀ W : S2048x512.Idx → Elt F .f32,
      (Memref.whole cc0_scratch1 : Memref sig .tc .vmem S2x2048x512 .f32).view.readAt (Elt F) (Rect.unit (s := S2x2048x512) o S1x2048x512.size h).toLoadRect (slotC W) = ld W := fun o h eo W => by
    subst eo
    exact funext fun y => congrArg (slotC W) (emb_box ![(par t.val).val, 0, 0] h y (ix3 (par t.val) (y 1) (y 2)) rfl (Nat.zero_add _).symm (Nat.zero_add _).symm)
  unfold wP
  iapply (wp_load 𝒱₀ (c : Thread nD τ) none Set.univ (m := Memref.whole cc0_scratch1) (S := slotS (par t.val))
    (((setOn_whole cc0_scratch1 _).le).trans (hsub _ (k0_off18_inb (cd t)) (off18_at t)))) $$ Hw; iintro Hw
  rw [hrd _ (k0_off18_inb (cd t)) (off18_at t)]
  iapply (rowTile_spec m c (par t.val) (t.val / 8) hk (ctl t.val) 0 ((1 : Fin 4).val) rfl A _ _ (off19_at t) _ _ _ (cond9_iff t) (cond10_iff t) (cond11_iff t) _ _ _ _ _ _
    (off20_at t) (off21_at t) (off22_at t)) $$ [Hx Ha Ho]
  · isplitl [Hx]; · iexact Hx
    isplitl [Ha]; · iexact Ha
    unfold oUpto
    iexists f
    isplitr; · (ipureintro; intro j _ hj; exact absurd hj (Nat.not_lt_zero _))
    iexact Ho
  iintro H
  iapply (rowTile_spec m c (par t.val) (t.val / 8) hk (ctl t.val) 1 ((2 : Fin 4).val) rfl A _ _ (off23_at t) _ _ _ (cond12_iff t) (cond13_iff t) (cond14_iff t) _ _ _ _ _ _
    (off24_at t) (off25_at t) (off26_at t)) $$ H
  iintro H
  iapply (rowTile_spec m c (par t.val) (t.val / 8) hk (ctl t.val) 2 ((3 : Fin 4).val) rfl A _ _ (off27_at t) _ _ _ (cond15_iff t) (cond16_iff t) (cond17_iff t) _ _ _ _ _ _
    (off28_at t) (off29_at t) (off30_at t)) $$ H
  iintro H
  iapply (rowTile_spec m c (par t.val) (t.val / 8) hk (ctl t.val) 3 4 rfl A _ _ (off31_at t) _ _ _ (cond18_iff t) (cond19_iff t) (cond20_iff t) _ _ _ _ _ _
    (off32_at t) (off33_at t) (off34_at t)) $$ H
  iintro ⟨Hx, Ha, Ho⟩
  iapply Hk
  isplitl [Hw]; · iexact Hw
  isplitl [Hx]; · iexact Hx
  isplitl [Ha]; · iexact Ha
  unfold oUpto
  icases Ho with ⟨%g, %hg, Ho⟩
  have he : oP c (par t.val) g = oP c (par t.val) (slotC (tstep m c (t.val / 8) (ctl t.val) A)) := by
    unfold oP
    exact pointsTo_congr (fun j hj => hg j hj (by have : (j 1).val < 2048 := (j 1).isLt; exact this))
  iapply (Entails.of_eq he) $$ Ho

end Cert.KernelIdeal.Exchange

end
-- ==== Proof.Point.lean ====
/-
  A grid point: what the device holds between points, and the point's text taking it from one to the next.
-/
module

public import proofs.«01_k».proof.Proof.Product

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What the device holds between points -/

/-- A weight slot at rest. -/
def Wfree (p : Fin 2) : sProp 𝕄 := iprop((∃ f, wP c p f) ∗ w1P m c p ∗ sv c (wsem p))
/-- A slot for tiles read back, at rest. -/
def Afree (p : Fin 2) : sProp 𝕄 := iprop((∃ f, aP c p f) ∗ sv c (asem p))
/-- A slot for tiles computed, at rest. -/
def Ofree (p : Fin 2) : sProp 𝕄 := iprop((∃ f, oP c p f) ∗ sv c (osem' p))
/-- The tile that point `u` works on, as the point finds it. -/
def TS (u : ℕ) : sProp 𝕄 := outP c (ctl u) (accN m c (u / 8))
/-- Point `t`'s weight tile under way. -/
def Wf (t : ℕ) : sProp 𝕄 := Fly c (.dma (wsem (par t))) Nw iprop(wP c (par t) (slotC (wtile m c (rnd (t / 8)) (ctl t))) ∗ w1P m c (par t))
/-- Point `t`'s tile under way from the result. -/
def Af (t : ℕ) : sProp 𝕄 := Fly c (.dma (asem (par t))) Nw iprop(aP c (par t) (slotC (tv (accN m c (t / 8)) (ctl t))) ∗ outP c (ctl t) (accN m c (t / 8)))
/-- Point `u`'s tile under way to the result. -/
def Of (u : ℕ) : sProp 𝕄 := Fly c (.dma (osem' (par u))) Nw iprop(outP c (ctl u) (accN m c (u / 8 + 1)) ∗ ∃ f, oP c (par u) f)
/-- Point `t`'s weight tile before the point. -/
def WI (t : ℕ) : sProp 𝕄 := if t < 32 then Wf m c t else Wfree m c (par t)
/-- Point `t`'s tile of the result before the point. -/
def Cur (t : ℕ) : sProp 𝕄 := if t < 32 then (if 8 ≤ t then Af m c t else iprop(TS m c t ∗ Afree c (par t))) else Afree c (par t)
/-- Point `t`'s slot for the tile computed, before the point. -/
def OS (t : ℕ) : sProp 𝕄 := if 2 ≤ t then Of m c (t - 2) else Ofree c (par t)
/-- Slot `s` before point `t`: landed if an earlier point waited for it. -/
def CS (s : Fin 4) (t : ℕ) : sProp 𝕄 := if s = 0 ∨ 8 * s.val < t then iprop(commP c s (commG m c) ∗ sv c (recvSem s)) else recvW m c s
/-- What no later point touches. -/
def Keep : sProp 𝕄 := iprop(semVal (barCell c) 0 ∗ xP m c ∗ (∃ f, cbufP c f) ∗ (∃ f, stageP c f) ∗ sv c (convSem 0) ∗ sv c (convSem 1) ∗ sv c (convSem 2))

/-- The tiles at rest before point `t`. -/
abbrev tl (t : ℕ) : ℕ := if t < 32 then t + 1 else t

/-- What the device holds before point `t`, past the exchange. -/
def Inv (t : ℕ) : sProp 𝕄 :=
  iprop(WI m c t ∗ Wfree m c (par (t + 1)) ∗ Cur m c t ∗ Afree c (par (t + 1)) ∗ bigSep (Finset.Ico (tl t) (max 8 (t + 6))) (TS m c)
    ∗ OS m c t ∗ OS m c (t + 1) ∗ (CS m c 0 t ∗ CS m c 1 t ∗ CS m c 2 t ∗ CS m c 3 t) ∗ (sendW m c 0 ∗ sendW m c 1 ∗ sendW m c 2) ∗ Keep m c)

/-- What it holds after the last point. -/
def Fin' : sProp 𝕄 :=
  iprop((Wfree m c 0 ∗ Wfree m c 1) ∗ (Afree c 0 ∗ Afree c 1) ∗ (Ofree c 0 ∗ Ofree c 1) ∗ bigSep (Finset.Ico 32 40) (TS m c)
    ∗ (CS m c 0 32 ∗ CS m c 1 32 ∗ CS m c 2 32 ∗ CS m c 3 32)
    ∗ ((slabP c 0 (x16G m c) ∗ sv c (sendSem 0)) ∗ (slabP c 1 (x16G m c) ∗ sv c (sendSem 1)) ∗ (slabP c 2 (x16G m c) ∗ sv c (sendSem 2))) ∗ Keep m c)

/-- What it holds before the first point. -/
def Ini : sProp 𝕄 :=
  iprop(start m c ∗ ((∃ f, commP c 0 f) ∗ (∃ f, commP c 1 f) ∗ (∃ f, commP c 2 f) ∗ (∃ f, commP c 3 f))
    ∗ ((∃ f, slabP c 0 f) ∗ (∃ f, slabP c 1 f) ∗ (∃ f, slabP c 2 f)) ∗ xP m c ∗ (∃ f, cbufP c f) ∗ (∃ f, stageP c f)
    ∗ (sv c (convSem 0) ∗ sv c (convSem 1) ∗ sv c (convSem 2)) ∗ sv c (recvSem 0)
    ∗ (Wfree m c 0 ∗ Wfree m c 1) ∗ (Afree c 0 ∗ Afree c 1) ∗ (Ofree c 0 ∗ Ofree c 1) ∗ bigSep (Finset.Ico 0 8) (TS m c))

/-- What it holds before point `t` and what it owes. -/
def Phi (t : ℕ) : sProp 𝕄 := if t = 0 then Ini m c else if t < 32 then Inv m c t else Fin' m c

/-! ## The pieces of a point -/

/-- Two points on, the same slot. -/
theorem par_two (t : ℕ) : par (t + 2) = par t := Fin.ext (by show (t + 2) % 2 = t % 2; omega)

/-- The first member of an interval, taken out. -/
theorem ico_take (a b : ℕ) (h : a < b) (Φ : ℕ → sProp 𝕄) : bigSep (Finset.Ico a b) Φ = iprop(Φ a ∗ bigSep (Finset.Ico (a + 1) b) Φ) := by
  have he : Finset.Ico a b = insert a (Finset.Ico (a + 1) b) := by ext x; simp only [Finset.mem_Ico, Finset.mem_insert]; omega
  rw [he]
  exact bigSep_insert (by simp)

/-- A member added at an interval's end. -/
theorem ico_add (a b : ℕ) (h : a ≤ b) (Φ : ℕ → sProp 𝕄) : bigSep (Finset.Ico a (b + 1)) Φ = iprop(Φ b ∗ bigSep (Finset.Ico a b) Φ) := by
  have he : Finset.Ico a (b + 1) = insert b (Finset.Ico a b) := by ext x; simp only [Finset.mem_Ico, Finset.mem_insert]; omega
  rw [he]
  exact bigSep_insert (by simp)

/-- One of the three waits for a landed slot: it is done at the first point of its round and passed by at every other. -/
theorem one_recv {α : Type} (t : Fin 32) (s : Fin 4) (hs : s ≠ 0) (b : BitVec 1) (hb : b = 1#1 ↔ t.val = 8 * s.val) (rest : KProg F α) (Q : α → sProp 𝕄) :
    iprop(CS m c s t.val ∗ owesX c 0) ⊢ iprop(((CS m c s (t.val + 1) ∗ owesX c 0) -∗ wpc c rest Q) -∗ wpc c (doIf b (fun _ => recvWait s) rest) Q) := by
  by_cases h : t.val = 8 * s.val
  · rw [doIf_pos (hb.mpr h)]
    unfold CS
    rw [if_neg (by rintro (h' | h'); exact hs h'; omega), if_pos (Or.inr (by omega))]
    iintro H Hk
    iapply wpc_bind
    iapply (recvWait_spec m c s hs) $$ H
    iintro ⟨H1, H2, H3⟩
    iapply Hk
    isplitl [H1 H2]
    · isplitl [H1] <;> iassumption
    iexact H3
  · rw [doIf_neg (fun h' => h (hb.mp h'))]
    have he : CS m c s (t.val + 1) = CS m c s t.val := by
      unfold CS
      by_cases h2 : 8 * s.val < t.val
      · rw [if_pos (Or.inr (by omega)), if_pos (Or.inr h2)]
      · rw [if_neg (by rintro (h' | h'); exact hs h'; omega), if_neg (by rintro (h' | h'); exact hs h'; omega)]
    rw [he]
    iintro H Hk
    iapply Hk
    iexact H

/-- The three waits for landed slots. -/
theorem recvWaits_spec {α : Type} (t : Fin 32) (rest : KProg F α) (Q : α → sProp 𝕄) :
    iprop((CS m c 1 t.val ∗ CS m c 2 t.val ∗ CS m c 3 t.val) ∗ owesX c 0)
      ⊢ iprop((((CS m c 1 (t.val + 1) ∗ CS m c 2 (t.val + 1) ∗ CS m c 3 (t.val + 1)) ∗ owesX c 0) -∗ wpc c rest Q) -∗ wpc c (recvWaits (cd t) rest) Q) := by
  unfold recvWaits
  iintro ⟨⟨H1, H2, H3⟩, HO⟩ Hk
  iapply (one_recv m c t 1 (by decide) _ (recv1_iff t)) $$ [H1 HO]
  · isplitl [H1] <;> iassumption
  iintro ⟨H1, HO⟩
  iapply (one_recv m c t 2 (by decide) _ (recv2_iff t)) $$ [H2 HO]
  · isplitl [H2] <;> iassumption
  iintro ⟨H2, HO⟩
  iapply (one_recv m c t 3 (by decide) _ (recv3_iff t)) $$ [H3 HO]
  · isplitl [H3] <;> iassumption
  iintro ⟨H3, HO⟩
  iapply Hk
  isplitl [H1 H2 H3]
  · isplitl [H1]; · iexact H1
    isplitl [H2] <;> iassumption
  iexact HO

/-- The prefetch starts the copies of the next point's tiles. -/
theorem prefetch_spec {α : Type} (t : Fin 32) (b : ℕ) (hb : t.val + 1 < b) (rest : KProg F α) (Q : α → sProp 𝕄) :
    iprop(Wfree m c (par (t.val + 1)) ∗ Afree c (par (t.val + 1)) ∗ bigSep (Finset.Ico (t.val + 1) b) (TS m c))
      ⊢ iprop(((WI m c (t.val + 1) ∗ Cur m c (t.val + 1) ∗ bigSep (Finset.Ico (tl (t.val + 1)) b) (TS m c)) -∗ wpc c rest Q) -∗ wpc c (prefetch (cd t) c rest) Q) := by
  unfold prefetch WI Cur tl
  by_cases h : t.val < 31
  · rw [dif_pos ((cond5_iff t).mpr h), if_pos (show t.val + 1 < 32 by omega), if_pos (show t.val + 1 < 32 by omega), if_pos (show t.val + 1 < 32 by omega), ico_take _ _ hb]
    unfold Wfree Wf
    iintro ⟨⟨Hw, H1, Hv⟩, Ha, ⟨HT, Hi⟩⟩ Hk
    iapply wpc_bind
    iapply (wStart_spec m c (par (t.val + 1)) _ _ (off3_at t) _ _ (off4_at t) (rnd ((t.val + 1) / 8)) (ctl (t.val + 1)) _ _ (off5_at t h c)) $$ [Hw H1 Hv]
    · isplitl [H1]; · iexact H1
      isplitl [Hw] <;> iassumption
    iintro Hf
    by_cases h8 : 8 ≤ t.val + 1
    · rw [doIf_pos ((cond6_iff t).mpr h8), if_pos h8]
      unfold Afree Af
      ihave HT := (Entails.of_eq (show TS m c (t.val + 1) = outP c (ctl (t.val + 1)) (accN m c ((t.val + 1) / 8)) from rfl)) $$ HT
      icases Ha with ⟨Ha, Hv⟩
      iapply wpc_bind
      iapply (aStart_spec c (par (t.val + 1)) _ _ (off6_at t) _ _ (off7_at t) (ctl (t.val + 1)) _ _ (off8_at t) (accN m c ((t.val + 1) / 8))) $$ [HT Ha Hv]
      · isplitl [HT]; · iexact HT
        isplitl [Ha] <;> iassumption
      iintro Hg
      iapply Hk
      isplitl [Hf]; · iexact Hf
      isplitl [Hg]; · iexact Hg
      iexact Hi
    · rw [doIf_neg (fun h' => h8 ((cond6_iff t).mp h')), if_neg h8]
      iapply Hk
      isplitl [Hf]; · iexact Hf
      isplitl [HT Ha]
      · isplitl [HT] <;> iassumption
      iexact Hi
  · rw [dif_neg (fun h' => h ((cond5_iff t).mp h')), if_neg (show ¬ t.val + 1 < 32 by omega), if_neg (show ¬ t.val + 1 < 32 by omega), if_neg (show ¬ t.val + 1 < 32 by omega)]
    iintro H Hk
    iapply Hk
    iexact H

/-- The point's slot for the tile computed, free; the tile that an earlier point wrote, at rest. -/
theorem oFree_spec {α : Type} (t : Fin 32) (a : ℕ) (ha : a ≤ t.val + 2) (rest : KProg F α) (Q : α → sProp 𝕄) :
    iprop(OS m c t.val ∗ bigSep (Finset.Ico a (max 8 (t.val + 6))) (TS m c) ∗ owesX c 0)
      ⊢ iprop(((Ofree c (par t.val) ∗ bigSep (Finset.Ico a (max 8 (t.val + 7))) (TS m c) ∗ owesX c 0) -∗ wpc c rest Q)
        -∗ wpc c (doIf (k0_cond7 (cd t)) (fun h => oWait (k0_off9 (cd t)) (k0_off9_inb (cd t) h) (k0_off11 (cd t)) (k0_off11_inb (cd t) h) (k0_off10 (cd t)) (k0_off10_inb (cd t) h)) rest) Q) := by
  unfold OS
  by_cases h2 : 2 ≤ t.val
  · have hp : par (t.val - 2) = par t.val := by rw [← par_two]; congr 1; omega
    have e1 : max 8 (t.val + 7) = (t.val + 6) + 1 := by omega
    have e2 : max 8 (t.val + 6) = t.val + 6 := by omega
    have hT : TS m c (t.val + 6) = outP c (ctl (t.val - 2)) (accN m c ((t.val - 2) / 8 + 1)) := by
      unfold TS
      rw [show ctl (t.val + 6) = ctl (t.val - 2) from Fin.ext (by show (t.val + 6) % 8 = (t.val - 2) % 8; omega), show (t.val + 6) / 8 = (t.val - 2) / 8 + 1 by omega]
    rw [doIf_pos ((cond7_iff t).mpr h2), if_pos h2, e1, e2, ico_add a (t.val + 6) (by omega), hT]
    unfold Of Ofree
    rw [hp]
    iintro ⟨Hf, Hi, HO⟩ Hk
    iapply wpc_bind
    iapply (oWait_spec c (par t.val) _ _ (off9_at t)) $$ [Hf HO]
    · isplitl [Hf] <;> iassumption
    iintro ⟨⟨HT, Hb⟩, Hv, HO⟩
    iapply Hk
    isplitl [Hb Hv]
    · isplitl [Hb] <;> iassumption
    isplitl [HT Hi]
    · isplitl [HT] <;> iassumption
    iexact HO
  · rw [doIf_neg (fun h' => h2 ((cond7_iff t).mp h')), if_neg h2, show max 8 (t.val + 7) = max 8 (t.val + 6) by omega]
    iintro H Hk
    iapply Hk
    iexact H

/-- The point's tile of the result: read back, or in the first round not. -/
theorem aFree_spec {α : Type} (t : Fin 32) (rest : KProg F α) (Q : α → sProp 𝕄) :
    iprop(Cur m c t.val ∗ owesX c 0)
      ⊢ iprop(((TS m c t.val ∗ aX c (par t.val) (t.val / 8) (tv (accN m c (t.val / 8)) (ctl t.val)) ∗ sv c (asem (par t.val)) ∗ owesX c 0) -∗ wpc c rest Q)
        -∗ wpc c (doIf (k0_cond8 (cd t)) (fun h => aWait (k0_off15 (cd t)) (k0_off15_inb (cd t) h) (k0_off16 (cd t)) (k0_off16_inb (cd t) h) (k0_off17 (cd t)) (k0_off17_inb (cd t) h)) rest) Q) := by
  unfold Cur
  rw [if_pos t.isLt]
  by_cases h8 : 8 ≤ t.val
  · rw [doIf_pos ((cond8_iff t).mpr h8), if_pos h8]
    unfold Af TS
    iintro H Hk
    iapply wpc_bind
    iapply (aWait_spec c (par t.val) _ _ (off15_at t)) $$ H
    iintro ⟨⟨Ha, HT⟩, Hv, HO⟩
    iapply Hk
    isplitl [HT]; · iexact HT
    isplitl [Ha]
    · unfold aX
      iexists _
      isplitr; · (ipureintro; exact fun _ => rfl)
      iexact Ha
    isplitl [Hv] <;> iassumption
  · rw [doIf_neg (fun h' => h8 ((cond8_iff t).mp h')), if_neg h8]
    unfold Afree
    iintro ⟨⟨HT, ⟨%f, Ha⟩, Hv⟩, HO⟩ Hk
    iapply Hk
    isplitl [HT]; · iexact HT
    isplitl [Ha]
    · unfold aX
      iexists f
      isplitr; · (ipureintro; intro h; exact absurd (by omega) h)
      iexact Ha
    isplitl [Hv] <;> iassumption

/-- The waits give the point its weight tile, its accumulator tile and a free output slot. -/
theorem waits_spec {α : Type} (t : Fin 32) (a : ℕ) (ha : a ≤ t.val + 2) (rest : KProg F α) (Q : α → sProp 𝕄) :
    iprop(WI m c t.val ∗ Cur m c t.val ∗ OS m c t.val ∗ bigSep (Finset.Ico a (max 8 (t.val + 6))) (TS m c) ∗ owesX c 0)
      ⊢ iprop((((wP c (par t.val) (slotC (wtile m c (rnd (t.val / 8)) (ctl t.val))) ∗ w1P m c (par t.val) ∗ sv c (wsem (par t.val)))
            ∗ (TS m c t.val ∗ aX c (par t.val) (t.val / 8) (tv (accN m c (t.val / 8)) (ctl t.val)) ∗ sv c (asem (par t.val)))
            ∗ Ofree c (par t.val) ∗ bigSep (Finset.Ico a (max 8 (t.val + 7))) (TS m c) ∗ owesX c 0) -∗ wpc c rest Q)
        -∗ wpc c (waits (cd t) c rest) Q) := by
  unfold waits WI
  rw [if_pos t.isLt]
  iintro ⟨Hw, Hc, Ho, Hi, HO⟩ Hk
  iapply (oFree_spec m c t a ha) $$ [Ho Hi HO]
  · isplitl [Ho]; · iexact Ho
    isplitl [Hi] <;> iassumption
  iintro ⟨Ho, Hi, HO⟩
  iapply wpc_bind
  unfold Wf
  iapply (wWait_spec c (par t.val) _ _ (off12_at t)) $$ [Hw HO]
  · isplitl [Hw] <;> iassumption
  iintro ⟨⟨Hw, H1⟩, Hv, HO⟩
  iapply (aFree_spec m c t) $$ [Hc HO]
  · isplitl [Hc] <;> iassumption
  iintro ⟨HT, Ha, Hav, HO⟩
  iapply Hk
  isplitl [Hw H1 Hv]
  · isplitl [Hw]; · iexact Hw
    isplitl [H1] <;> iassumption
  isplitl [HT Ha Hav]
  · isplitl [HT]; · iexact HT
    isplitl [Ha] <;> iassumption
  isplitl [Ho]; · iexact Ho
  isplitl [Hi] <;> iassumption

/-- The point's slot has landed. -/
theorem slot_take (t : Fin 32) :
    iprop(CS m c 0 (t.val + 1) ∗ CS m c 1 (t.val + 1) ∗ CS m c 2 (t.val + 1) ∗ CS m c 3 (t.val + 1))
      ⊢ iprop(commP c (rnd (t.val / 8)) (commG m c) ∗ (commP c (rnd (t.val / 8)) (commG m c)
        -∗ (CS m c 0 (t.val + 1) ∗ CS m c 1 (t.val + 1) ∗ CS m c 2 (t.val + 1) ∗ CS m c 3 (t.val + 1)))) := by
  have h4 : t.val / 8 = 0 ∨ t.val / 8 = 1 ∨ t.val / 8 = 2 ∨ t.val / 8 = 3 := by omega
  have hp : ∀ s : Fin 4, 8 * s.val < t.val + 1 → CS m c s (t.val + 1) = iprop(commP c s (commG m c) ∗ sv c (recvSem s)) := fun s h => by
    unfold CS; exact if_pos (Or.inr h)
  rcases h4 with h | h | h | h <;> rw [h]
  · rw [hp 0 (by show 8 * 0 < _; omega), show rnd 0 = 0 from rfl]
    iintro ⟨⟨H0, Hv⟩, H1, H2, H3⟩
    isplitl [H0]; · iexact H0
    iintro H0
    isplitl [H0 Hv]; · (isplitl [H0] <;> iassumption)
    isplitl [H1]; · iexact H1
    isplitl [H2] <;> iassumption
  · rw [hp 1 (by show 8 * 1 < _; omega), show rnd 1 = 1 from rfl]
    iintro ⟨H0, ⟨H1, Hv⟩, H2, H3⟩
    isplitl [H1]; · iexact H1
    iintro H1
    isplitl [H0]; · iexact H0
    isplitl [H1 Hv]; · (isplitl [H1] <;> iassumption)
    isplitl [H2] <;> iassumption
  · rw [hp 2 (by show 8 * 2 < _; omega), show rnd 2 = 2 from rfl]
    iintro ⟨H0, H1, ⟨H2, Hv⟩, H3⟩
    isplitl [H2]; · iexact H2
    iintro H2
    isplitl [H0]; · iexact H0
    isplitl [H1]; · iexact H1
    isplitl [H2 Hv]; · (isplitl [H2] <;> iassumption)
    iexact H3
  · rw [hp 3 (by show 8 * 3 < _; omega), show rnd 3 = 3 from rfl]
    iintro ⟨H0, H1, H2, ⟨H3, Hv⟩⟩
    isplitl [H3]; · iexact H3
    iintro H3
    isplitl [H0]; · iexact H0
    isplitl [H1]; · iexact H1
    isplitl [H2]; · iexact H2
    isplitl [H3] <;> iassumption

/-- The tile written, under way: the slots of this point are those of the point after the next. -/
theorem write_spec (t : Fin 32) (Q : PUnit → sProp 𝕄) :
    iprop(oP c (par t.val) (slotC (tstep m c (t.val / 8) (ctl t.val) (tv (accN m c (t.val / 8)) (ctl t.val)))) ∗ TS m c t.val ∗ sv c (osem' (par t.val)))
      ⊢ iprop((OS m c (t.val + 1 + 1) -∗ Q ⟨⟩)
        -∗ wpc c (oStart (k0_off12 (cd t)) (k0_off12_inb (cd t)) (k0_off13 (cd t)) (k0_off13_inb (cd t)) (k0_off35 (cd t)) (k0_off35_inb (cd t))) Q) := by
  have he : tstep m c (t.val / 8) (ctl t.val) (tv (accN m c (t.val / 8)) (ctl t.val)) = tv (accN m c (t.val / 8 + 1)) (ctl t.val) := by
    rw [tv_accN, tv_accN]; rfl
  rw [he]
  have ho : OS m c (t.val + 1 + 1) = Of m c t.val := by
    unfold OS; rw [if_pos (by omega), show t.val + 1 + 1 - 2 = t.val by omega]
  rw [ho]
  unfold TS Of
  exact oStart_spec c (par t.val) _ _ (off12_at t) _ _ (off13_at t) (ctl t.val) _ _ (off35_at t) (accN m c (t.val / 8)) (accN m c (t.val / 8 + 1)) Q

/-- The last point's waits, or nothing. -/
theorem closing_spec (t : Fin 32) (Q : PUnit → sProp 𝕄) :
    iprop(Inv m c (t.val + 1) ∗ owesX c 0) ⊢ iprop(((Phi m c (t.val + 1) ∗ owesX c 0) -∗ Q ⟨⟩) -∗ wpc c (closing (cd t)) Q) := by
  unfold closing Phi
  rw [if_neg (Nat.succ_ne_zero _)]
  by_cases h : t.val = 31
  · rw [doIf_pos ((cond21_iff t).mpr h), if_neg (by omega), show t.val + 1 = 32 by omega]
    unfold Inv Fin'
    rw [show WI m c 32 = Wfree m c 0 by unfold WI; exact if_neg (by decide), show Cur m c 32 = Afree c 0 by unfold Cur; exact if_neg (by decide),
      show OS m c 32 = Of m c 30 by unfold OS; exact if_pos (by decide), show OS m c (32 + 1) = Of m c 31 by unfold OS; exact if_pos (by decide),
      show tl 32 = 32 from if_neg (by decide), show max 8 (32 + 6) = 38 from rfl, ico_add 32 39 (by decide), ico_add 32 38 (by decide)]
    unfold Of
    iintro ⟨⟨Hw0, Hw1, Ha0, Ha1, Hi, Ho0, Ho1, HC, ⟨Hs0, Hs1, Hs2⟩, HK⟩, HO⟩ Hk
    simp only [Prog.bind_assoc]
    iapply wpc_bind
    iapply (oWait_spec c (par 30) _ _ (off36_at t h)) $$ [Ho0 HO]
    · isplitl [Ho0] <;> iassumption
    iintro ⟨⟨HT0, Hb0⟩, Hv0, HO⟩
    iapply wpc_bind
    iapply (oWait_spec c (par 31) _ _ (off39_at t h)) $$ [Ho1 HO]
    · isplitl [Ho1] <;> iassumption
    iintro ⟨⟨HT1, Hb1⟩, Hv1, HO⟩
    iapply wpc_bind
    iapply (sendWait_spec m c 0) $$ [Hs0 HO]
    · isplitl [Hs0] <;> iassumption
    iintro ⟨Hs0, Hr0, HO⟩
    iapply wpc_bind
    iapply (sendWait_spec m c 1) $$ [Hs1 HO]
    · isplitl [Hs1] <;> iassumption
    iintro ⟨Hs1, Hr1, HO⟩
    iapply wpc_bind
    iapply (sendWait_spec m c 2) $$ [Hs2 HO]
    · isplitl [Hs2] <;> iassumption
    iintro ⟨Hs2, Hr2, HO⟩
    iapply (wpc_ret c)
    iapply Hk
    isplitr [HO]
    · isplitl [Hw0 Hw1]
      · isplitl [Hw0]; · iexact Hw0
        iexact Hw1
      isplitl [Ha0 Ha1]
      · isplitl [Ha0]; · iexact Ha0
        iexact Ha1
      unfold Ofree
      isplitl [Hb0 Hv0 Hb1 Hv1]
      · isplitl [Hb0 Hv0]
        · isplitl [Hb0]; · iexact Hb0
          iexact Hv0
        isplitl [Hb1]; · iexact Hb1
        iexact Hv1
      isplitl [HT0 HT1 Hi]
      · rw [show TS m c 39 = outP c (ctl 31) (accN m c (31 / 8 + 1)) from rfl, show TS m c 38 = outP c (ctl 30) (accN m c (30 / 8 + 1)) from rfl]
        isplitl [HT1]; · iexact HT1
        isplitl [HT0]; · iexact HT0
        iexact Hi
      isplitl [HC]; · iexact HC
      isplitr [HK]
      · isplitl [Hs0 Hr0]; · (isplitl [Hs0] <;> iassumption)
        isplitl [Hs1 Hr1]; · (isplitl [Hs1] <;> iassumption)
        isplitl [Hs2] <;> iassumption
      iexact HK
    iexact HO
  · rw [doIf_neg (fun h' => h ((cond21_iff t).mp h')), if_pos (by omega)]
    iintro H Hk
    iapply (wpc_ret c)
    iapply Hk
    iexact H

/-- A point past the exchange. -/
theorem body_spec (t : Fin 32) (Q : PUnit → sProp 𝕄) :
    iprop(Inv m c t.val ∗ owesX c 0)
      ⊢ iprop(((Phi m c (t.val + 1) ∗ owesX c 0) -∗ Q ⟨⟩) -∗ wpc c (recvWaits (cd t) <| prefetch (cd t) c <| waits (cd t) c <| compute (cd t) <| do
          oStart (k0_off12 (cd t)) (k0_off12_inb (cd t)) (k0_off13 (cd t)) (k0_off13_inb (cd t)) (k0_off35 (cd t)) (k0_off35_inb (cd t))
          closing (cd t)) Q) := by
  unfold Inv
  rw [show tl t.val = t.val + 1 from if_pos t.isLt]
  iintro ⟨⟨HW, HWf, HC, HAf, Hi, Ho, Ho1, ⟨Hs0, Hs⟩, Hse, HK⟩, HO⟩ Hk
  iapply (recvWaits_spec m c t) $$ [Hs HO]
  · isplitl [Hs] <;> iassumption
  iintro ⟨⟨Hs1, Hs2, Hs3⟩, HO⟩
  iapply (prefetch_spec m c t (max 8 (t.val + 6)) (by omega)) $$ [HWf HAf Hi]
  · isplitl [HWf]; · iexact HWf
    isplitl [HAf] <;> iassumption
  iintro ⟨HW1, HC1, Hi⟩
  iapply (waits_spec m c t (tl (t.val + 1)) (by unfold tl; split <;> omega)) $$ [HW HC Ho Hi HO]
  · isplitl [HW]; · iexact HW
    isplitl [HC]; · iexact HC
    isplitl [Ho]; · iexact Ho
    isplitl [Hi] <;> iassumption
  iintro ⟨⟨Hw, Hw1, Hwv⟩, ⟨HT, Ha, Hav⟩, HoF, Hi, HO⟩
  have h0 : CS m c 0 t.val = CS m c 0 (t.val + 1) := by unfold CS; rw [if_pos (Or.inl rfl), if_pos (Or.inl rfl)]
  ihave Hs0 := (Entails.of_eq h0) $$ Hs0
  ihave Hs := (slot_take m c t) $$ [Hs0 Hs1 Hs2 Hs3]
  · isplitl [Hs0]; · iexact Hs0
    isplitl [Hs1]; · iexact Hs1
    isplitl [Hs2] <;> iassumption
  icases Hs with ⟨Hx, Hback⟩
  unfold Ofree
  icases HoF with ⟨HoF, Hov⟩
  iapply (compute_spec m c t (tv (accN m c (t.val / 8)) (ctl t.val))) $$ [Hw Hx Ha HoF]
  · isplitl [Hw]; · iexact Hw
    isplitl [Hx]; · iexact Hx
    isplitl [Ha] <;> iassumption
  iintro ⟨Hw, Hx, Ha, HoF⟩
  iapply wpc_bind
  iapply (write_spec m c t) $$ [HoF HT Hov]
  · isplitl [HoF]; · iexact HoF
    isplitl [HT] <;> iassumption
  iintro Ho2
  iapply (closing_spec m c t) $$ [-Hk]
  · isplitr [HO]
    · unfold Inv
      isplitl [HW1]; · iexact HW1
      isplitl [Hw Hw1 Hwv]
      · rw [show par (t.val + 1 + 1) = par t.val from par_two t.val]
        unfold Wfree
        isplitl [Hw]; · (iexists _; iexact Hw)
        isplitl [Hw1] <;> iassumption
      isplitl [HC1]; · iexact HC1
      isplitl [Ha Hav]
      · rw [show par (t.val + 1 + 1) = par t.val from par_two t.val]
        unfold Afree aX
        icases Ha with ⟨%g, -, Ha⟩
        isplitl [Ha]; · (iexists g; iexact Ha)
        iexact Hav
      isplitl [Hi]; · iexact Hi
      isplitl [Ho1]; · iexact Ho1
      isplitl [Ho2]; · iexact Ho2
      isplitl [Hback Hx]
      · iapply Hback
        iexact Hx
      isplitl [Hse] <;> iassumption
    iexact HO
  iexact Hk

/-- The exchange, and the first weight tile sent for. -/
theorem opening_spec (i : grid0.Coords) (h1 : k0_cond1 i = 1#1) {α : Type} (rest : KProg F α) (Q : α → sProp 𝕄) :
    iprop(Ini m c ∗ owesX c (O₀ c)) ⊢ iprop(((Inv m c 0 ∗ owesX c 0) -∗ wpc c rest Q) -∗ wpc c (opening i c rest) Q) := by
  unfold opening Ini
  rw [doIf_pos h1]
  iintro ⟨⟨Hst, Hcm, Hsl, Hx, Hb, Hg, ⟨Hv0, Hv1, Hv2⟩, Hr0, ⟨HW0, HW1⟩, ⟨HA0, HA1⟩, ⟨HO0, HO1⟩, HT⟩, HO⟩ Hk
  simp only [Prog.bind_assoc]
  iapply wpc_bind
  iapply (exchange_spec m i c h1) $$ [Hst Hcm Hsl Hx Hb Hg Hv0 Hv2 HO]
  · isplitl [Hst]; · iexact Hst
    isplitl [Hcm]; · iexact Hcm
    isplitl [Hsl]; · iexact Hsl
    isplitl [Hx]; · iexact Hx
    isplitl [Hb]; · iexact Hb
    isplitl [Hg]; · iexact Hg
    isplitl [Hv0]; · iexact Hv0
    isplitl [Hv2] <;> iassumption
  iintro ⟨Hbar, Hse, ⟨Hr1, Hr2, Hr3⟩, ⟨Hb, Hg⟩, Hx, ⟨Hv0, Hv2⟩, Hc0, HO⟩
  iapply wpc_bind
  ihave HW0 := (Entails.of_eq (show Wfree m c 0 = iprop((∃ f, wP c 0 f) ∗ w1P m c 0 ∗ sv c (wsem 0)) from rfl)) $$ HW0
  icases HW0 with ⟨Hw, H1, Hv⟩
  iapply (wStart_spec m c 0 _ _ rfl _ _ rfl (rnd (0 / 8)) (ctl 0) _ _ (off2_at c)) $$ [Hw H1 Hv]
  · isplitl [H1]; · iexact H1
    isplitl [Hw] <;> iassumption
  iintro Hf
  iapply Hk
  isplitr [HO]
  · unfold Inv Keep
    rw [show WI m c 0 = Wf m c 0 by unfold WI; exact if_pos (by decide), show Cur m c 0 = iprop(TS m c 0 ∗ Afree c 0) by unfold Cur; rw [if_pos (by decide), if_neg (by decide)]; rfl,
      show OS m c 0 = Ofree c 0 by unfold OS; exact if_neg (by decide), show OS m c (0 + 1) = Ofree c 1 by unfold OS; exact if_neg (by decide),
      show tl 0 = 1 from if_pos (by decide), show max 8 (0 + 6) = 8 from rfl,
      show CS m c 0 0 = iprop(commP c 0 (commG m c) ∗ sv c (recvSem 0)) by unfold CS; exact if_pos (Or.inl rfl),
      show CS m c 1 0 = recvW m c 1 by unfold CS; exact if_neg (by decide), show CS m c 2 0 = recvW m c 2 by unfold CS; exact if_neg (by decide),
      show CS m c 3 0 = recvW m c 3 by unfold CS; exact if_neg (by decide)]
    unfold Wf
    ihave HT := (Entails.of_eq (ico_take 0 8 (by decide) (TS m c))) $$ HT
    icases HT with ⟨HT0, HT⟩
    isplitl [Hf]; · iexact Hf
    isplitl [HW1]; · iexact HW1
    isplitl [HT0 HA0]; · (isplitl [HT0] <;> iassumption)
    isplitl [HA1]; · iexact HA1
    isplitl [HT]; · iexact HT
    isplitl [HO0]; · iexact HO0
    isplitl [HO1]; · iexact HO1
    isplitl [Hc0 Hr0 Hr1 Hr2 Hr3]
    · isplitl [Hc0 Hr0]; · (isplitl [Hc0] <;> iassumption)
      isplitl [Hr1]; · iexact Hr1
      isplitl [Hr2] <;> iassumption
    isplitl [Hse]; · iexact Hse
    isplitl [Hbar]; · iexact Hbar
    isplitl [Hx]; · iexact Hx
    isplitl [Hb]; · iexact Hb
    isplitl [Hg]; · iexact Hg
    isplitl [Hv0]; · iexact Hv0
    isplitl [Hv1] <;> iassumption
  iexact HO

/-- What the device owes before point `t`. -/
def owed (t : ℕ) : CellTallies nD τ sig Unit := if t = 0 then O₀ c else 0

/-- A device reads its own number. -/
theorem wpc_deviceId {α : Type} (k : Dev nD → KProg F α) (Q : α → sProp 𝕄) : wpc c (k c) Q ⊢ wpc c (.op .deviceId k) Q := by
  unfold wpc; rw [wp_deviceId]

/-- A grid point. -/
theorem point_spec (t : Fin 32) (Q : PUnit → sProp 𝕄) :
    iprop(Phi m c t.val ∗ owesX c (owed c t.val)) ⊢ iprop(((Phi m c (t.val + 1) ∗ owesX c 0) -∗ Q ⟨⟩) -∗ wpc c (point (cd t)) Q) := by
  unfold point owed
  simp only [Prog.lift, Prog.bind_op, Prog.bind_ret]
  iintro ⟨HP, HO⟩ Hk
  iapply (wpc_deviceId c)
  by_cases h : t.val = 0
  · rw [if_pos h]
    ihave HP := (Entails.of_eq (show Phi m c t.val = Ini m c by unfold Phi; rw [if_pos h])) $$ HP
    iapply (opening_spec m c (cd t) ((cond1_iff t).mpr h)) $$ [HP HO]
    · isplitl [HP] <;> iassumption
    iintro ⟨HP, HO⟩
    ihave HP := (Entails.of_eq (show Inv m c 0 = Inv m c t.val by rw [h])) $$ HP
    iapply (body_spec m c t) $$ [HP HO]
    · isplitl [HP] <;> iassumption
    iexact Hk
  · rw [if_neg h]
    unfold opening
    rw [doIf_neg (fun h' => h ((cond1_iff t).mp h'))]
    ihave HP := (Entails.of_eq (show Phi m c t.val = Inv m c t.val by unfold Phi; rw [if_neg h, if_pos t.isLt])) $$ HP
    iapply (body_spec m c t) $$ [HP HO]
    · isplitl [HP] <;> iassumption
    iexact Hk

end Cert.KernelIdeal.Exchange

end
-- ==== Proof.Ghost.lean ====
/-
  The devices' shared cells at launch: their duties' tokens minted and dealt to the devices that pay them, the cells'
  invariants allocated, and the credits that the launch gives for what the other devices owe.
-/
module

public import proofs.«01_k».proof.Proof.Point
public import proofs.«01_k».proof.Proof.Gen.KernelIdeal.Launch
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

/-- The shared cells of a device are different cells. -/
theorem csem_inj : Function.Injective csem := by decide

/-- Which cell of a device a duty belongs to: the barrier, a receive cell, a send cell. -/
def tokSem (k d : Fin 3) : SemLoc sig := if k.val = 0 then .reg barrier0 else if k.val = 1 then .dma (recvSem (slotOf d)) else .dma (sendSem d)
/-- Its number among the cell's duties. -/
def tokDuty (k d : Fin 3) : Fin 3 := if k.val = 0 then d else 0

/-- The duties that a device pays are different duties. -/
theorem tok_inj (k k' d d' : Fin 3) : tokSem k d = tokSem k' d' ∧ tokDuty k d = tokDuty k' d' → k = k' ∧ d = d' := by
  revert k k' d d'; decide

/-- The shared cells of all devices are different cells. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- Every shared cell of every device. -/
def ringCells : Finset (GSem nD τ sig) := Finset.univ.map ⟨kcell, kcell_injective⟩

/-- A duty of a device's own cells. -/
abbrev tokOf (x : Dev nD × Fin 3 × Fin 3) : GSem nD τ sig × ℕ × Fin 3 := (((x.1 : Thread nD τ), tokSem x.2.1 x.2.2), 0, tokDuty x.2.1 x.2.2)

/-- The duties of all devices are different duties. -/
theorem tokOf_injective : Function.Injective tokOf := by
  rintro ⟨c, k, d⟩ ⟨c', k', d'⟩ h
  have h1 : c = c' := congrArg (fun x : GSem nD τ sig × ℕ × Fin 3 => x.1.1.1) h
  have h2 : tokSem k d = tokSem k' d' := congrArg (fun x : GSem nD τ sig × ℕ × Fin 3 => x.1.2) h
  have h3 : tokDuty k d = tokDuty k' d' := congrArg (fun x : GSem nD τ sig × ℕ × Fin 3 => x.2.2) h
  obtain ⟨h4, h5⟩ := tok_inj k k' d d' ⟨h2, h3⟩
  rw [h1, h4, h5]

/-- Every duty of every shared cell. -/
def ringToks : Finset (GSem nD τ sig × ℕ × Fin 3) := Finset.univ.map ⟨tokOf, tokOf_injective⟩

/-- The device whose barrier cell duty `d` of this one signals. -/
def toBar (d : Fin 3) : Dev nD ≃ Dev nD where
  toFun c := c + backW d
  invFun c := c + offW (up d)
  left_inv c := back_off c d
  right_inv c := off_back c d
/-- The device that slab `d` of this one is for. -/
def toRecv (d : Fin 3) : Dev nD ≃ Dev nD := (toBar d).symm

variable {F : FTy → Type} [FloatOps F]
local notation "𝕄" => MT nD τ sig Unit (Elt F) ℕ UU ℕ
variable (m : (ℓ : Loc nD τ sig) → Buf (Elt F) ℓ)

/-- A conjunction over three, written out. -/
theorem bigSep3 (Φ : Fin 3 → sProp 𝕄) : bigSep Finset.univ Φ = iprop(Φ 0 ∗ Φ 1 ∗ Φ 2) := bigSep_univ_eq_bigSepL [0, 1, 2] (by decide) (by decide) Φ
/-- A conjunction over seven, written out. -/
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The duties of a device's own cells. -/
def toks (c : Dev nD) : sProp 𝕄 :=
  iprop((bigSep Finset.univ fun d : Fin 3 => dutyTok ER (barCell c) 0 d) ∗ (bigSep Finset.univ fun d : Fin 3 => dutyTok ER (recvCell c (slotOf d)) 0 0)
    ∗ bigSep Finset.univ fun d : Fin 3 => dutyTok ER (sendCell c d) 0 0)
/-- The duties that a device pays. -/
def payToks (c : Dev nD) : sProp 𝕄 :=
  iprop((bigSep Finset.univ fun d : Fin 3 => dutyTok ER (barCell (c + backW d)) 0 d)
    ∗ (bigSep Finset.univ fun d : Fin 3 => dutyTok ER (recvCell (c + offW (up d)) (slotOf d)) 0 0)
    ∗ bigSep Finset.univ fun d : Fin 3 => dutyTok ER (sendCell c d) 0 0)

/-- What the launch deals a device of its own cells. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ toks c)

/-- The initial ghost state gives every device its cells and its tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => by unfold toks; rw [bigSep_univ_prod, bigSep3]; rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The kernel's own semaphores, numbered as declared. -/
abbrev osem (k : Fin 16) : SemLoc sig := .dma k
/-- The kernel's own semaphores are what the launch takes them for. -/
theorem ownSemFacts : Pipeline.OwnSemFacts cfg0.spec osem := by decide

/-- The semaphores that only their own device uses. -/
def localSems (c : Dev nD) : sProp 𝕄 :=
  iprop(sv c (recvSem 0) ∗ (sv c (convSem 0) ∗ sv c (convSem 1) ∗ sv c (convSem 2))
    ∗ (sv c (wsem 0) ∗ sv c (wsem 1)) ∗ (sv c (asem 0) ∗ sv c (asem 1)) ∗ (sv c (osem' 0) ∗ sv c (osem' 1)))

/-- The kernel's own semaphores at zero, written out. -/
theorem ownSems0_list (c : Dev nD) : (Pipeline.ownSems0 (Ix := Unit) (Name := ℕ) (U := UU) (Lvl := ℕ) (Val := Elt F) (τ := τ) osem c : sProp 𝕄)
    = iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15) := by
  rw [Pipeline.ownSems0_eq_of_list c osem [0, 1, 2, 3, 4, 5, 6, 7, 8, 9, 10, 11, 12, 13, 14, 15] (by decide) (by decide)]; rfl

/-- The one semaphore that the kernel does not own is the barrier's. -/
theorem unscopedSems0_eq (c : Dev nD) : (unscopedSems0 c : sProp 𝕄) = semVal (barCell c) 0 := by
  unfold unscopedSems0; rw [bigSep_eq_bigSepL_of_eq [SemLoc.reg barrier0] (by decide) (by decide)]; rfl

/-- The own semaphores are those of the shared send and receive cells, and the local ones. -/
theorem ownSems0_eq (c : Dev nD) : (Pipeline.ownSems0 (Ix := Unit) (Name := ℕ) (U := UU) (Lvl := ℕ) (Val := Elt F) (τ := τ) osem c : sProp 𝕄)
    ⊣⊢ iprop(((sv c (recvSem 1) ∗ sv c (recvSem 2) ∗ sv c (recvSem 3)) ∗ (sv c (sendSem 0) ∗ sv c (sendSem 1) ∗ sv c (sendSem 2))) ∗ localSems c) := by
  rw [ownSems0_list]
  unfold localSems
  constructor
  · iintro ⟨H0, H1, H2, H3, H4, H5, H6, H7, H8, H9, H10, H11, H12, H13, H14, H15⟩
    isplitl [H0 H1 H2 H4 H5 H6]
    · isplitl [H4 H5 H6]
      · isplitl [H4]; · iexact H4
        isplitl [H5]; · iexact H5
        iexact H6
      isplitl [H0]; · iexact H0
      isplitl [H1]; · iexact H1
      iexact H2
    isplitl [H3]; · iexact H3
    isplitl [H7 H8 H9]
    · isplitl [H7]; · iexact H7
      isplitl [H8]; · iexact H8
      iexact H9
    isplitl [H10 H11]
    · isplitl [H10]; · iexact H10
      iexact H11
    isplitl [H12 H13]
    · isplitl [H12]; · iexact H12
      iexact H13
    isplitl [H14]; · iexact H14
    iexact H15
  · iintro ⟨⟨⟨H4, H5, H6⟩, H0, H1, H2⟩, H3, ⟨H7, H8, H9⟩, ⟨H10, H11⟩, ⟨H12, H13⟩, H14, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- All of a device's semaphores at zero are its shared cells' and its local ones'. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ localSems c) : sProp 𝕄) := by
  rw [unscopedSems0_eq, bigSep7]
  iintro ⟨Ho, HB⟩
  ihave Ho := (ownSems0_eq (F := F) c).1 $$ Ho
  icases Ho with ⟨⟨⟨H1, H2, H3⟩, H4, H5, H6⟩, Hl⟩
  isplitr [Hl]
  · isplitl [HB]; · iexact HB
    isplitl [H1]; · iexact H1
    isplitl [H2]; · iexact H2
    isplitl [H3]; · iexact H3
    isplitl [H4]; · iexact H4
    isplitl [H5]; · iexact H5
    iexact H6
  iexact Hl

/-- One device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## Every device's part -/

/-- Every shared cell's invariant, and that its round 0 has begun. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

/-- What is recorded of the shared cells may be used any number of times. -/
instance records_persistent (K : Dev nD × Fin 7 → ℕ) : BI.Persistent (records m K) := by unfold records; infer_instance

/-- What is recorded of one shared cell. -/
theorem record_at (K : Dev nD × Fin 7 → ℕ) (ck : Dev nD × Fin 7) :
    records m K ⊢ iprop(cellInv ER (rd m) (K ck) (kcell ck) ∗ reached ER (kcell ck) 0) := by
  unfold records
  have h1 : (bigSep Finset.univ fun ck : Dev nD × Fin 7 => (cellInv ER (rd m) (K ck) (kcell ck) : sProp 𝕄)) ⊢ cellInv ER (rd m) (K ck) (kcell ck) :=
    bigSep_elim (Finset.mem_univ ck)
  have h2 : (bigSep Finset.univ fun ck : Dev nD × Fin 7 => (reached ER (kcell ck) 0 : sProp 𝕄)) ⊢ reached ER (kcell ck) 0 :=
    bigSep_elim (Finset.mem_univ ck)
  iintro ⟨HI, HR⟩
  isplitl [HI]
  · iapply h1; iexact HI
  · iapply h2; iexact HR

/-- What is recorded of a barrier cell. -/
theorem record_bar (K : Dev nD × Fin 7 → ℕ) (c : Dev nD) :
    records m K ⊢ iprop(cellInv ER (rd m) (K (c, 0)) (barCell c) ∗ reached ER (barCell c) 0) := record_at m K (c, 0)
/-- The number of a receive cell names it. -/
theorem kcell_recv (c : Dev nD) (s : Fin 4) (hs : s ≠ 0) : kcell (c, kR s) = recvCell c s :=
  congrArg (Prod.mk (c : Thread nD τ)) (by revert hs; revert s; decide : csem (kR s) = .dma (recvSem s))
/-- The number of a send cell names it. -/
theorem kcell_send (c : Dev nD) (d : Fin 3) : kcell (c, kS d) = sendCell c d :=
  congrArg (Prod.mk (c : Thread nD τ)) (by revert d; decide : csem (kS d) = .dma (sendSem d))
/-- What is recorded of a receive cell. -/
theorem record_recv (K : Dev nD × Fin 7 → ℕ) (c : Dev nD) (s : Fin 4) (hs : s ≠ 0) :
    records m K ⊢ iprop(cellInv ER (rd m) (K (c, kR s)) (recvCell c s) ∗ reached ER (recvCell c s) 0) := by
  have h := record_at m K (c, kR s); rwa [kcell_recv c s hs] at h
/-- What is recorded of a send cell. -/
theorem record_send (K : Dev nD × Fin 7 → ℕ) (c : Dev nD) (d : Fin 3) :
    records m K ⊢ iprop(cellInv ER (rd m) (K (c, kS d)) (sendCell c d) ∗ reached ER (sendCell c d) 0) := by
  have h := record_at m K (c, kS d); rwa [kcell_send c d] at h

/-- What the set-up makes of a device's part. -/
def G' (c : Dev nD) : sProp 𝕄 :=
  iprop((∃ K, records m K ∗ (bigSep Finset.univ fun k : Fin 7 => atPos ER (kcell (c, k)) 0 ∅ 0) ∗ payToks c) ∗ localSems c)

/-- Over devices and then slabs is over slabs and then devices. -/
theorem exchange_sums (e : Dev nD → Fin 3 → sProp 𝕄) :
    (bigSep Finset.univ fun c : Dev nD => bigSep Finset.univ fun d : Fin 3 => e c d)
      = bigSep Finset.univ fun d : Fin 3 => bigSep Finset.univ fun c : Dev nD => e c d := by
  rw [← bigSep_univ_prod (fun x : Dev nD × Fin 3 => e x.1 x.2), ← bigSep_univ_prod (fun x : Fin 3 × Dev nD => e x.2 x.1),
    bigSep_univ_equiv (Equiv.prodComm (Fin 3) (Dev nD)) (fun x : Dev nD × Fin 3 => e x.1 x.2)]
  rfl

/-- Where each slab has its own rotation of the devices, dealing by the rotation gives the same conjunction. -/
theorem deal (e : Dev nD → Fin 3 → sProp 𝕄) (f : Fin 3 → Dev nD ≃ Dev nD) :
    (bigSep Finset.univ fun c : Dev nD => bigSep Finset.univ fun d : Fin 3 => e c d)
      = bigSep Finset.univ fun c : Dev nD => bigSep Finset.univ fun d : Fin 3 => e (f d c) d := by
  rw [exchange_sums e, exchange_sums (fun c d => e (f d c) d)]
  exact bigSep_congr fun d _ => bigSep_univ_equiv (f d) (fun c => e c d)

/-- The duties handed to the devices that pay them. -/
theorem toks_around : (bigSep Finset.univ fun c : Dev nD => (toks c : sProp 𝕄)) = bigSep Finset.univ fun c : Dev nD => payToks c := by
  unfold toks payToks
  rw [bigSep_sep', bigSep_sep', bigSep_sep', bigSep_sep',
    deal (fun c d => (dutyTok ER (barCell c) 0 d : sProp 𝕄)) toBar,
    deal (fun c d => (dutyTok ER (recvCell c (slotOf d)) 0 0 : sProp 𝕄)) toRecv]
  rfl

/-- What may be used any number of times may be used at every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have apart, once the invariants are allocated, is what each starts from. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)), toks_around]
  iintro ⟨HI, ⟨Hat, #HR⟩, Htok, Hl⟩
  ihave HK := (BI.bigSep_exists_pi Finset.univ (fun (ck : Dev nD × Fin 7) (κ : ℕ) => (cellInv ER (rd m) κ (kcell ck) : sProp 𝕄))) $$ HI
  icases HK with ⟨%K, #HI⟩
  iapply (bigSep_with_persistent (R := records m K)
    (Φ := fun c => iprop((bigSep Finset.univ fun k : Fin 7 => atPos ER (kcell (c, k)) 0 ∅ 0) ∗ payToks c ∗ localSems c)) fun c _ => by
      unfold G'
      iintro ⟨HR, Hat, Ht, Hl⟩
      isplitr [Hl]
      · iexists K
        isplitl [HR]; · iexact HR
        isplitl [Hat] <;> iassumption
      iexact Hl)
  isplitr
  · unfold records; isplitl; · iexact HI
    iexact HR
  · rw [bigSep_sep', bigSep_sep']
    isplitl [Hat]; · iexact Hat
    isplitl [Htok] <;> iassumption

/-- The launch of all devices: the invariants allocated from the semaphores at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credit for a signal that a device will be given. -/
theorem cred_bar (d : Fin 3) (c : Dev nD) : (Pipeline.launchCred (fun c => oweB c d) c : sProp 𝕄) ⊢ cred (tallyAt (barCell c) () 1) :=
  Pipeline.launchCred_tallyAt (.reg barrier0) (fun c => c + backW d) (fun c => c + offW (up d)) (fun c => off_back c d) (fun c => back_off c d) () 1 c
/-- The credit for a landing that a device will be given. -/
theorem cred_recv (d : Fin 3) (c : Dev nD) : (Pipeline.launchCred (fun c => oweR c d) c : sProp 𝕄) ⊢ cred (tallyAt (recvCell c (slotOf d)) () N) :=
  Pipeline.launchCred_tallyAt (.dma (recvSem (slotOf d))) (fun c => c + offW (up d)) (fun c => c + backW d) (fun c => back_off c d) (fun c => off_back c d) () N c

/-- What the others owe a device: three signals, and a landing in each of its slots 1 to 3. -/
theorem creds (c : Dev nD) : (Pipeline.launchCred O₀ c : sProp 𝕄) ⊢ iprop(cred (tallyAt (barCell c) () 3)
    ∗ cred (tallyAt (recvCell c (slotOf 0)) () N) ∗ cred (tallyAt (recvCell c (slotOf 1)) () N) ∗ cred (tallyAt (recvCell c (slotOf 2)) () N)) := by
  rw [show (O₀ : Dev nD → CellTallies nD τ sig Unit) = fun c => ((((((0 + oweR c 2) + oweR c 1) + oweR c 0) + oweB c 0) + oweB c 2) + oweB c 1) from rfl,
    Pipeline.launchCred_add (fun c => (((((0 + oweR c 2) + oweR c 1) + oweR c 0) + oweB c 0) + oweB c 2)) (fun c => oweB c 1),
    Pipeline.launchCred_add (fun c => ((((0 + oweR c 2) + oweR c 1) + oweR c 0) + oweB c 0)) (fun c => oweB c 2),
    Pipeline.launchCred_add (fun c => (((0 + oweR c 2) + oweR c 1) + oweR c 0)) (fun c => oweB c 0),
    Pipeline.launchCred_add (fun c => ((0 + oweR c 2) + oweR c 1)) (fun c => oweR c 0),
    Pipeline.launchCred_add (fun c => (0 + oweR c 2)) (fun c => oweR c 1),
    Pipeline.launchCred_add (fun c => 0) (fun c => oweR c 2)]
  iintro ⟨⟨⟨⟨⟨⟨-, R2⟩, R1⟩, R0⟩, B0⟩, B2⟩, B1⟩
  ihave R0 := (cred_recv (F := F) 0 c) $$ R0
  ihave R1 := (cred_recv (F := F) 1 c) $$ R1
  ihave R2 := (cred_recv (F := F) 2 c) $$ R2
  ihave B0 := (cred_bar (F := F) 0 c) $$ B0
  ihave B1 := (cred_bar (F := F) 1 c) $$ B1
  ihave B2 := (cred_bar (F := F) 2 c) $$ B2
  isplitl [B0 B1 B2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iexact B0
    iapply (cred_add _ _).2
    isplitl [B1] <;> iassumption
  isplitl [R0]; · iexact R0
  isplitl [R1] <;> iassumption

/-! ## What a device starts from -/

/-- What a device starts from. -/
theorem start_intro (c : Dev nD) : iprop(levAts L lv ∗ Pipeline.launchCred O₀ c ∗ G' m c) ⊢ iprop(start m c ∗ localSems c) := by
  unfold G' payToks
  rw [bigSep7, bigSep3, bigSep3, bigSep3]
  iintro ⟨Hlv, Hcr, ⟨%K, #HR, ⟨A0, A1, A2, A3, A4, A5, A6⟩, ⟨TB0, TB1, TB2⟩, ⟨TR0, TR1, TR2⟩, TS0, TS1, TS2⟩, Hl⟩
  ihave Hcr := (creds (F := F) c) $$ Hcr
  icases Hcr with ⟨C, C0, C1, C2⟩
  isplitr [Hl]
  · unfold start barKit sigKit sendKit recvW
    ihave #Hb := (record_bar m K c) $$ HR
    icases Hb with ⟨#Ib, #Rb⟩
    ihave #H0 := (record_bar m K (c + backW 0)) $$ HR
    icases H0 with ⟨#Ib0, #Rb0⟩
    ihave #H1 := (record_bar m K (c + backW 1)) $$ HR
    icases H1 with ⟨#Ib1, #Rb1⟩
    ihave #H2 := (record_bar m K (c + backW 2)) $$ HR
    icases H2 with ⟨#Ib2, #Rb2⟩
    ihave #H3 := (record_send m K c 0) $$ HR
    icases H3 with ⟨#Is0, #Rs0⟩
    ihave #H4 := (record_send m K c 1) $$ HR
    icases H4 with ⟨#Is1, #Rs1⟩
    ihave #H5 := (record_send m K c 2) $$ HR
    icases H5 with ⟨#Is2, #Rs2⟩
    ihave #H6 := (record_recv m K (c + offW (up 0)) (slotOf 0) (by decide)) $$ HR
    icases H6 with ⟨#Ir0, -⟩
    ihave #H7 := (record_recv m K (c + offW (up 1)) (slotOf 1) (by decide)) $$ HR
    icases H7 with ⟨#Ir1, -⟩
    ihave #H8 := (record_recv m K (c + offW (up 2)) (slotOf 2) (by decide)) $$ HR
    icases H8 with ⟨#Ir2, -⟩
    ihave #H9 := (record_recv m K c 1 (by decide)) $$ HR
    icases H9 with ⟨#I1, #R1⟩
    ihave #H10 := (record_recv m K c 2 (by decide)) $$ HR
    icases H10 with ⟨#I2, #R2⟩
    ihave #H11 := (record_recv m K c 3 (by decide)) $$ HR
    icases H11 with ⟨#I3, #R3⟩
    isplitl [A0 A4 A5 A6 TB0 TB1 TB2 TR0 TR1 TR2 TS0 TS1 TS2 C]
    · iexists K
      isplitl [A0 C]
      · isplitr; · iexact Ib
        isplitl [A0]; · iexact A0
        iexact C
      isplitl [TB0 TB1 TB2]
      · isplitl [TB0]
        · isplitr; · iexact Ib0
          isplitl; · iexact TB0
          iexact Rb0
        isplitl [TB1]
        · isplitr; · iexact Ib1
          isplitl; · iexact TB1
          iexact Rb1
        isplitr; · iexact Ib2
        isplitl; · iexact TB2
        iexact Rb2
      isplitl [A4 TR0 TS0]
      · isplitr; · iexact Is0
        isplitr; · iexact Ir0
        isplitl [TS0]; · iexact TS0
        isplitr; · iexact Rs0
        isplitl [TR0]; · iexact TR0
        iexact A4
      isplitl [A5 TR1 TS1]
      · isplitr; · iexact Is1
        isplitr; · iexact Ir1
        isplitl [TS1]; · iexact TS1
        isplitr; · iexact Rs1
        isplitl [TR1]; · iexact TR1
        iexact A5
      isplitr; · iexact Is2
      isplitr; · iexact Ir2
      isplitl [TS2]; · iexact TS2
      isplitr; · iexact Rs2
      isplitl [TR2]; · iexact TR2
      iexact A6
    isplitl [A1 A2 A3 C0 C1 C2]
    · isplitl [A1 C1]
      · iexists (K (c, kR 1))
        isplitr; · iexact I1
        isplitl [A1]; · iexact A1
        iexact C1
      isplitl [A2 C0]
      · iexists (K (c, kR 2))
        isplitr; · iexact I2
        isplitl [A2]; · iexact A2
        iexact C0
      iexists (K (c, kR 3))
      isplitr; · iexact I3
      isplitl [A3]; · iexact A3
      iexact C2
    isplitr
    · isplitr; · iexact R1
      isplitr; · iexact R2
      iexact R3
    iexact Hlv
  iexact Hl

end Cert.KernelIdeal.Exchange

end
-- ==== Proof.Run.lean ====
/-
  The run of the whole mesh: the body meets its obligation at every grid point, the buffers a device is launched with are
  the parts its first point takes, and the parts its last point leaves are the buffers again, the result holding the
  accumulators after the last round.
-/
module

public import proofs.«01_k».proof.Proof.Ghost
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds Idealize.ShloMosaic.Pipeline

variable {F : FTy → Type} [FloatOps F]
local notation "𝕄" => MT nD τ sig Unit (Elt F) ℕ UU ℕ
variable (m : (ℓ : Loc nD τ sig) → Buf (Elt F) ℓ)

/-! ## The body at every point -/

/-- What the pipeline is told of a device: what it holds and owes before every point. -/
def dats : (p : Fin 1) → (c : Dev nD) → Dat τ (Elt F) Unit ℕ UU ℕ (cfgs p) c := fun p c => match p with
  | 0 => { A := fun w => w.elim0, after := fun w => w.elim0, Φ := fun t => Phi m c t.val, q := fun _ => fullShare, owed := fun t => owed c t.val }

/-- The body meets the pipeline's obligation at every point. -/
theorem body_obligation (c : Dev nD) : BodyObligation (dats m 0 c) (defs₀ (F := F)) 𝒱₀ () Set.univ := fun t => by
  have hb : wpc (F := F) c (point (cd t)) = wp frame (wpE (defs₀ (F := F)) 𝒱₀ (c : Thread nD τ) none) Set.univ (bodyAt0 t) := by
    rw [← cc0_body_eq]
  have h := point_spec m c t (fun _ => iprop(Phi m c (t.val + 1) ∗ (dats m 0 c).owesAt () t.succ ∗ emp))
  rw [hb] at h
  have hP : (dats m 0 c).Φ t.castSucc = Phi m c t.val := rfl
  have hO : (dats m 0 c).owed t.castSucc = owed c t.val := rfl
  unfold owesX at h
  rw [Finset.univ_eq_empty, bigSep_empty, bigSep_empty, hP]
  unfold Dat.owesAt
  rw [hO]
  iintro ⟨HP, ⟨%W, -, HO⟩, -⟩
  ihave H := h $$ [HP HO]
  · isplitl [HP]; · iexact HP
    iexists W; iexact HO
  iapply H
  iintro ⟨HP, ⟨%W', HO⟩⟩
  isplitl [HP]; · iexact HP
  isplitl [HO]
  · iexists W'
    isplitr; · ipureintro; exact fun _ _ => Or.inl trivial
    iexact HO
  iempintro

/-! ## A buffer and its parts -/

section Fiber
variable {ℓ : Loc nD τ sig} {n : ℕ} (g : Idx ℓ → ℕ) (hg : ∀ x, g x < n) (q : PosShare TreeShare)

/-- The parts of a buffer given by a coordinate are disjoint. -/
theorem fiber_disj : ∀ t ∈ (Finset.univ : Finset (Fin n)), ∀ t' ∈ (Finset.univ : Finset (Fin n)), t ≠ t' →
    Disjoint (Finset.univ.filter fun x => g x = t.val) (Finset.univ.filter fun x => g x = t'.val) := by
  intro t _ t' _ ht
  rw [Finset.disjoint_left]
  intro x h h'
  exact ht (Fin.ext ((Finset.mem_filter.mp h).2.symm.trans (Finset.mem_filter.mp h').2))
include hg in
/-- They are all of it. -/
theorem fiber_univ : (Finset.univ : Finset (Fin n)).biUnion (fun t => Finset.univ.filter fun x => g x = t.val) = Finset.univ := by
  ext x
  simp only [Finset.mem_biUnion, Finset.mem_univ, Finset.mem_filter, true_and, iff_true]
  exact ⟨⟨g x, hg x⟩, rfl⟩

include hg in
/-- A buffer is its parts. -/
theorem fiber_split (f : Buf (Elt F) ℓ) :
    (ℓ ↦{q} f : sProp 𝕄) = bigSep Finset.univ fun t : Fin n => ℓ ↦[Finset.univ.filter fun x => g x = t.val]{q} f := by
  rw [← pointsTo_biUnion Finset.univ _ (fiber_disj g), fiber_univ g hg]
include hg in
/-- The parts at any contents are the buffer at some contents. -/
theorem fiber_join (f₀ : Buf (Elt F) ℓ) :
    (bigSep Finset.univ fun t : Fin n => iprop(∃ f, ℓ ↦[Finset.univ.filter fun x => g x = t.val]{q} f) : sProp 𝕄) ⊢ iprop(∃ f, ℓ ↦{q} f) := by
  haveI : Nonempty (Buf (Elt F) ℓ) := ⟨f₀⟩
  iintro H
  ihave H := (BI.bigSep_exists_pi Finset.univ (fun (t : Fin n) (f : Buf (Elt F) ℓ) => (ℓ ↦[Finset.univ.filter fun x => g x = t.val]{q} f : sProp 𝕄))) $$ H
  icases H with ⟨%fs, H⟩
  ihave H := (pointsTo_biUnion_join Finset.univ _ fs f₀ (fiber_disj g)) $$ H
  icases H with ⟨%f, -, H⟩
  rw [fiber_univ g hg]
  iexists f
  iexact H
end Fiber

/-- A conjunction over two, written out. -/
theorem bigSep2 (Φ : Fin 2 → sProp 𝕄) : bigSep Finset.univ Φ = iprop(Φ 0 ∗ Φ 1) := bigSep_univ_eq_bigSepL [0, 1] (by decide) (by decide) Φ
/-- A conjunction over four, written out. -/
theorem bigSep4 (Φ : Fin 4 → sProp 𝕄) : bigSep Finset.univ Φ = iprop(Φ 0 ∗ Φ 1 ∗ Φ 2 ∗ Φ 3) := bigSep_univ_eq_bigSepL [0, 1, 2, 3] (by decide) (by decide) Φ

section Parts
variable (c : Dev nD)

/-- The communication buffer is its four slots. -/
theorem comm_split (f) : (((c : Thread nD τ).loc cc0_scratch0 ↦{fullShare} f : sProp 𝕄)) = iprop(commP c 0 f ∗ commP c 1 f ∗ commP c 2 f ∗ commP c 3 f) :=
  (fiber_split (ℓ := (c : Thread nD τ).loc cc0_scratch0) (n := 4) (fun x : S4x2048x2048.Idx => (x 0).val) (fun x => (x 0).isLt) fullShare f).trans (bigSep4 _)
/-- Four slots are the communication buffer. -/
theorem comm_join : iprop((∃ f, commP (F := F) c 0 f) ∗ (∃ f, commP c 1 f) ∗ (∃ f, commP c 2 f) ∗ (∃ f, commP c 3 f)) ⊢ iprop(∃ f, (c : Thread nD τ).loc cc0_scratch0 ↦{fullShare} f) :=
  (Entails.of_eq (bigSep4 (fun s => iprop(∃ f, commP (F := F) c s f))).symm).trans
    (fiber_join (ℓ := (c : Thread nD τ).loc cc0_scratch0) (n := 4) (fun x : S4x2048x2048.Idx => (x 0).val) (fun x => (x 0).isLt) fullShare (fun _ => default))
/-- The slabs' buffer is its three slabs. -/
theorem slab_split (f) : (((c : Thread nD τ).loc main_v1_1 ↦{fullShare} f : sProp 𝕄)) = iprop(slabP c 0 f ∗ slabP c 1 f ∗ slabP c 2 f) :=
  (fiber_split (ℓ := (c : Thread nD τ).loc main_v1_1) (n := 3) (fun x : S3x2048x2048.Idx => (x 0).val) (fun x => (x 0).isLt) fullShare f).trans (bigSep3 _)
/-- The weight buffer is its two slots. -/
theorem w_split (f) : (((c : Thread nD τ).loc cc0_scratch1 ↦{fullShare} f : sProp 𝕄)) = iprop(wP c 0 f ∗ wP c 1 f) :=
  (fiber_split (ℓ := (c : Thread nD τ).loc cc0_scratch1) (n := 2) (fun x : S2x2048x512.Idx => (x 0).val) (fun x => (x 0).isLt) fullShare f).trans (bigSep2 _)
/-- Two slots are the weight buffer. -/
theorem w_join : iprop((∃ f, wP (F := F) c 0 f) ∗ (∃ f, wP c 1 f)) ⊢ iprop(∃ f, (c : Thread nD τ).loc cc0_scratch1 ↦{fullShare} f) :=
  (Entails.of_eq (bigSep2 (fun s => iprop(∃ f, wP (F := F) c s f))).symm).trans
    (fiber_join (ℓ := (c : Thread nD τ).loc cc0_scratch1) (n := 2) (fun x : S2x2048x512.Idx => (x 0).val) (fun x => (x 0).isLt) fullShare (fun _ => default))
/-- The accumulator buffer is its two slots. -/
theorem a_split (f) : (((c : Thread nD τ).loc cc0_scratch2 ↦{fullShare} f : sProp 𝕄)) = iprop(aP c 0 f ∗ aP c 1 f) :=
  (fiber_split (ℓ := (c : Thread nD τ).loc cc0_scratch2) (n := 2) (fun x : S2x2048x512.Idx => (x 0).val) (fun x => (x 0).isLt) fullShare f).trans (bigSep2 _)
/-- Two slots are the accumulator buffer. -/
theorem a_join : iprop((∃ f, aP (F := F) c 0 f) ∗ (∃ f, aP c 1 f)) ⊢ iprop(∃ f, (c : Thread nD τ).loc cc0_scratch2 ↦{fullShare} f) :=
  (Entails.of_eq (bigSep2 (fun s => iprop(∃ f, aP (F := F) c s f))).symm).trans
    (fiber_join (ℓ := (c : Thread nD τ).loc cc0_scratch2) (n := 2) (fun x : S2x2048x512.Idx => (x 0).val) (fun x => (x 0).isLt) fullShare (fun _ => default))
/-- The output buffer is its two slots. -/
theorem o_split (f) : (((c : Thread nD τ).loc cc0_scratch3 ↦{fullShare} f : sProp 𝕄)) = iprop(oP c 0 f ∗ oP c 1 f) :=
  (fiber_split (ℓ := (c : Thread nD τ).loc cc0_scratch3) (n := 2) (fun x : S2x2048x512.Idx => (x 0).val) (fun x => (x 0).isLt) fullShare f).trans (bigSep2 _)
/-- Two slots are the output buffer. -/
theorem o_join : iprop((∃ f, oP (F := F) c 0 f) ∗ (∃ f, oP c 1 f)) ⊢ iprop(∃ f, (c : Thread nD τ).loc cc0_scratch3 ↦{fullShare} f) :=
  (Entails.of_eq (bigSep2 (fun s => iprop(∃ f, oP (F := F) c s f))).symm).trans
    (fiber_join (ℓ := (c : Thread nD τ).loc cc0_scratch3) (n := 2) (fun x : S2x2048x512.Idx => (x 0).val) (fun x => (x 0).isLt) fullShare (fun _ => default))

/-- The two halves of the weights. -/
theorem w1_split : (((c : Thread nD τ).loc main_arg1 ↦{fullShare} wv m c : sProp 𝕄)) ⊣⊢ iprop(w1P m c 0 ∗ w1P m c 1) :=
  pointsTo_share (PosShare.mem_left_op_right fullShare)

/-- The tiles of the result before round `k` are the result. -/
theorem out_tiles (k : ℕ) : bigSep (Finset.Ico (8 * k) (8 * k + 8)) (TS m c) = ((c : Thread nD τ).loc main_v1_0 ↦{fullShare} accN m c k : sProp 𝕄) := by
  have hI : Finset.Ico (8 * k) (8 * k + 8) = (Finset.univ : Finset (Fin 8)).map ⟨fun n => 8 * k + n.val, fun a b h => Fin.ext (Nat.add_left_cancel h)⟩ := by
    ext x
    simp only [Finset.mem_Ico, Finset.mem_map, Finset.mem_univ, true_and, Function.Embedding.coeFn_mk]
    constructor
    · intro h; exact ⟨⟨x - 8 * k, by omega⟩, by show 8 * k + (x - 8 * k) = x; omega⟩
    · rintro ⟨n, rfl⟩; have := n.isLt; exact ⟨Nat.le_add_right _ _, by show 8 * k + n.val < 8 * k + 8; omega⟩
  rw [hI, BI.bigSep_map]
  refine (bigSep_congr fun n _ => ?_).trans (fiber_split (ℓ := (c : Thread nD τ).loc main_v1_0) (n := 8) (fun x : S2048x4096.Idx => (x 1).val / 512)
    (fun x => by have : (x 1).val < 4096 := (x 1).isLt; omega) fullShare (accN m c k)).symm
  show TS m c (8 * k + n.val) = outP c n (accN m c k)
  unfold TS
  have h1 : ctl (8 * k + n.val) = n := Fin.ext (by show (8 * k + n.val) % 8 = n.val; have := n.isLt; omega)
  have h2 : (8 * k + n.val) / 8 = k := by have := n.isLt; omega
  rw [h1, h2]

/-- Before the first round the result holds what it held at launch. -/
theorem accN_zero : accN m c 0 = ov m c := by
  funext x
  show ov m c _ = ov m c x
  congr 1
  funext a
  match a with
  | ⟨0, _⟩ => rfl
  | ⟨1, _⟩ => exact Fin.ext (by show 512 * ((x 1).val / 512) + (x 1).val % 512 = (x 1).val; omega)

end Parts

/-! ## The first point's holdings -/

/-- The unscoped buffers of a device as launched. -/
def args (c : Dev nD) : sProp 𝕄 :=
  iprop(((c : Thread nD τ).loc main_arg0 ↦{fullShare} xv m c) ∗ ((c : Thread nD τ).loc main_arg1 ↦{fullShare} wv m c)
    ∗ ((c : Thread nD τ).loc main_v1_0 ↦{fullShare} ov m c) ∗ (∃ f, (c : Thread nD τ).loc main_v1_1 ↦{fullShare} f))

/-- The unscoped buffers of a device at the end. -/
def results (c : Dev nD) : sProp 𝕄 :=
  iprop(((c : Thread nD τ).loc main_arg0 ↦{fullShare} xv m c) ∗ ((c : Thread nD τ).loc main_arg1 ↦{fullShare} wv m c)
    ∗ ((c : Thread nD τ).loc main_v1_0 ↦{fullShare} accN m c 4))

/-- What a device is launched with is what its first point takes. -/
theorem first (c : Dev nD) : iprop((start m c ∗ localSems c ∗ args m c) ∗ scopedRest cfg0.spec c) ⊢ Ini m c := by
  rw [scopedRest0_eq]
  unfold args localSems
  iintro ⟨⟨Hst, ⟨Hr0, ⟨Hc0, Hc1, Hc2⟩, ⟨Hw0, Hw1⟩, ⟨Ha0, Ha1⟩, Ho0, Ho1⟩, Hx, Hw, Hout, ⟨%fs, Hs⟩⟩, ⟨%f0, H0⟩, ⟨%f1, H1⟩, ⟨%f2, H2⟩, ⟨%f3, H3⟩, ⟨%f4, H4⟩, ⟨%f5, H5⟩⟩
  ihave Hs := (Entails.of_eq (slab_split c fs)) $$ Hs
  icases Hs with ⟨Hs0, Hs1, Hs2⟩
  ihave H0 := (Entails.of_eq (comm_split c f0)) $$ H0
  icases H0 with ⟨H00, H01, H02, H03⟩
  ihave H1 := (Entails.of_eq (w_split c f1)) $$ H1
  icases H1 with ⟨H10, H11⟩
  ihave H2 := (Entails.of_eq (a_split c f2)) $$ H2
  icases H2 with ⟨H20, H21⟩
  ihave H3 := (Entails.of_eq (o_split c f3)) $$ H3
  icases H3 with ⟨H30, H31⟩
  ihave Hw := (w1_split m c).1 $$ Hw
  icases Hw with ⟨HwL, HwR⟩
  rw [← accN_zero]
  ihave Hout := (Entails.of_eq (out_tiles m c 0).symm) $$ Hout
  unfold Ini Wfree Afree Ofree
  isplitl [Hst]; · iexact Hst
  isplitl [H00 H01 H02 H03]
  · isplitl [H00]; · iexists f0; iexact H00
    isplitl [H01]; · iexists f0; iexact H01
    isplitl [H02]; · iexists f0; iexact H02
    iexists f0; iexact H03
  isplitl [Hs0 Hs1 Hs2]
  · isplitl [Hs0]; · iexists fs; iexact Hs0
    isplitl [Hs1]; · iexists fs; iexact Hs1
    iexists fs; iexact Hs2
  isplitl [Hx]; · unfold xP; iexact Hx
  isplitl [H4]; · iexists f4; unfold cbufP; iexact H4
  isplitl [H5]; · iexists f5; unfold stageP; iexact H5
  isplitl [Hc0 Hc1 Hc2]
  · isplitl [Hc0]; · iexact Hc0
    isplitl [Hc1] <;> iassumption
  isplitl [Hr0]; · iexact Hr0
  isplitl [H10 H11 HwL HwR Hw0 Hw1]
  · isplitl [H10 HwL Hw0]
    · isplitl [H10]; · iexists f1; iexact H10
      isplitl [HwL] <;> iassumption
    isplitl [H11]; · iexists f1; iexact H11
    isplitl [HwR] <;> iassumption
  isplitl [H20 H21 Ha0 Ha1]
  · isplitl [H20 Ha0]
    · isplitl [H20]; · iexists f2; iexact H20
      iexact Ha0
    isplitl [H21]; · iexists f2; iexact H21
    iexact Ha1
  isplitl [H30 H31 Ho0 Ho1]
  · isplitl [H30 Ho0]
    · isplitl [H30]; · iexists f3; iexact H30
      iexact Ho0
    isplitl [H31]; · iexists f3; iexact H31
    iexact Ho1
  iexact Hout

/-- The last point's holdings are the buffers and the semaphores again. -/
theorem last (c : Dev nD) : Fin' m c ⊢ iprop((unscopedSems0 c ∗ results m c) ∗ Pipeline.ownSems0 osem c ∗ scopedRest cfg0.spec c) := by
  rw [scopedRest0_eq, unscopedSems0_eq]
  have hcs : ∀ s : Fin 4, CS m c s 32 = iprop(commP c s (commG m c) ∗ sv c (recvSem s)) := fun s => by
    unfold CS; exact if_pos (Or.inr (by have := s.isLt; omega))
  unfold Fin' Keep Wfree Afree Ofree results
  rw [hcs, hcs, hcs, hcs, show Finset.Ico 32 40 = Finset.Ico (8 * 4) (8 * 4 + 8) from rfl, out_tiles]
  iintro ⟨⟨⟨⟨%f10, H10⟩, HwL, Hw0⟩, ⟨%f11, H11⟩, HwR, Hw1⟩, ⟨⟨⟨%f20, H20⟩, Ha0⟩, ⟨%f21, H21⟩, Ha1⟩, ⟨⟨⟨%f30, H30⟩, Ho0⟩, ⟨%f31, H31⟩, Ho1⟩, Hout,
    ⟨⟨H00, Hr0⟩, ⟨H01, Hr1⟩, ⟨H02, Hr2⟩, H03, Hr3⟩, ⟨⟨-, Hs0⟩, ⟨-, Hs1⟩, -, Hs2⟩, Hb, Hx, ⟨%f4, H4⟩, ⟨%f5, H5⟩, Hc0, Hc1, Hc2⟩
  isplitl [Hb Hx HwL HwR Hout]
  · isplitl [Hb]; · iexact Hb
    isplitl [Hx]; · unfold xP; iexact Hx
    isplitl [HwL HwR]
    · iapply (w1_split m c).2
      isplitl [HwL] <;> iassumption
    iexact Hout
  isplitl [Hr0 Hr1 Hr2 Hr3 Hs0 Hs1 Hs2 Hc0 Hc1 Hc2 Hw0 Hw1 Ha0 Ha1 Ho0 Ho1]
  · iapply (ownSems0_eq (F := F) c).2
    isplitl [Hr1 Hr2 Hr3 Hs0 Hs1 Hs2]
    · isplitl [Hr1 Hr2 Hr3]
      · isplitl [Hr1]; · iexact Hr1
        isplitl [Hr2] <;> iassumption
      isplitl [Hs0]; · iexact Hs0
      isplitl [Hs1] <;> iassumption
    unfold localSems
    isplitl [Hr0]; · iexact Hr0
    isplitl [Hc0 Hc1 Hc2]
    · isplitl [Hc0]; · iexact Hc0
      isplitl [Hc1] <;> iassumption
    isplitl [Hw0 Hw1]
    · isplitl [Hw0] <;> iassumption
    isplitl [Ha0 Ha1]
    · isplitl [Ha0] <;> iassumption
    isplitl [Ho0] <;> iassumption
  isplitl [H00 H01 H02 H03]
  · iapply (comm_join c)
    isplitl [H00]; · iexists (commG m c); iexact H00
    isplitl [H01]; · iexists (commG m c); iexact H01
    isplitl [H02]; · iexists (commG m c); iexact H02
    iexists (commG m c); iexact H03
  isplitl [H10 H11]
  · iapply (w_join c)
    isplitl [H10]; · iexists f10; iexact H10
    iexists f11; iexact H11
  isplitl [H20 H21]
  · iapply (a_join c)
    isplitl [H20]; · iexists f20; iexact H20
    iexists f21; iexact H21
  isplitl [H30 H31]
  · iapply (o_join c)
    isplitl [H30]; · iexists f30; iexact H30
    iexists f31; iexact H31
  isplitl [H4]
  · iexists f4; unfold cbufP; iexact H4
  iexists f5; unfold stageP; iexact H5

/-! ## The run -/

/-- What a device's memory holds at the end: the arguments unchanged, the result at the accumulators after the last round. -/
def QM (c : Dev nD) (s : MemSt nD τ sig (Elt F)) : Prop :=
  s.mem ((c : Thread nD τ).loc main_arg0) = xv m c ∧ s.mem ((c : Thread nD τ).loc main_arg1) = wv m c ∧ s.mem ((c : Thread nD τ).loc main_v1_0) = accN m c 4

/-- What a device ends with, read off the final memory. -/
theorem read_results (c : Dev nD) (s' : Phys nD τ sig (Elt F)) : iprop(results m c ∗ SI s') ⊢ (iprop(⌜QM m c s'.mem⌝ ∗ SI s') : sProp 𝕄) := by
  unfold results
  iintro ⟨⟨H0, H1, H2⟩, HSI⟩
  icombine HSI H0 gives %h0
  icombine HSI H1 gives %h1
  icombine HSI H2 gives %h2
  isplitr
  · ipureintro
    exact ⟨Buf.eq_of_forall_mem_univ h0, Buf.eq_of_forall_mem_univ h1, Buf.eq_of_forall_mem_univ h2⟩
  iexact HSI

variable (ρ : Dev nD → PrngReg)

/-- The ghost state of the launch: the pipeline's and the shared cells'. -/
def u₀ : UU :=
  (initOf (Pipeline.cells cfgs cellOf_inj) (Pipeline.launchToks cfgs cellOf_inj), (initOf ringCells ringToks, 1))

set_option maxRecDepth 8000 in
/-- From any memory with every counter at zero, over any float values: every weakly fair execution of the four devices
    ends, the arguments unchanged, the result at the accumulators after the last round, every counter at zero. -/
theorem run_main : θ_run defs (onTc (τ := τ) (main (F := F))) ⟨m, fun _ => 0, ρ⟩ (fun r => (∀ c, QM m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      ihave HX := (Entails.of_eq (show BI.own (embR (initOf ringCells ringToks, (1 : Counters))) = (BI.own (ER (initOf ringCells ringToks)) : sProp 𝕄) from rfl)) $$ HX
      imod (fund_ring m) $$ HX with HG
      imodintro
      isplitl [HP] <;> iassumption)
    (hglob := glob m)
    (hA := fun _ w => w.elim0) (hpf := fun _ k => k.elim0)
    (X := fun c => iprop(start m c ∗ localSems c ∗ args m c)) (Y := fun c => iprop(unscopedSems0 c ∗ results m c)) (Z := fun _ => iprop(emp))
    (hX := fun c => by
      rw [Pipeline.unscopedRestP_none, unscopedRest0_eq]
      iintro ⟨⟨Hx, Hw, Ho, Hs⟩, Hlv, Hcr, -, HG⟩
      ihave H := (start_intro m c) $$ [Hlv Hcr HG]
      · isplitl [Hlv]; · iexact Hlv
        isplitl [Hcr] <;> iassumption
      icases H with ⟨Hst, Hl⟩
      imodintro
      isplitl
      · isplitl [Hst]; · iexact Hst
        isplitl [Hl]; · iexact Hl
        unfold args
        isplitl [Hx]; · iexact Hx
        isplitl [Hw]; · iexact Hw
        isplitl [Ho]; · iexact Ho
        iexists _; iexact Hs
      · iempintro)
    (hin := fun c => by
      rw [show (dats m 0 c).Φ 0 = Ini m c from rfl]
      iintro ⟨HX, -, HR⟩
      iapply (first m c)
      isplitl [HX] <;> iassumption)
    (hout := fun c => last m c)
    (QY := fun c s => QM m c s ∧ ∀ sm : SemLoc sig, sm.isScoped .tc = false → s.sem ((c.tc : Thread nD τ), sm) = 0)
    (hY := fun c s' => by
      iintro ⟨⟨Hu, Hr⟩, -, HSI⟩
      ihave H := (read_results m c s') $$ [Hr HSI]
      · isplitl [Hr] <;> iassumption
      icases H with ⟨%hm, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hm, hs⟩
      iexact HSI)
    (hQ := fun _ h hs => ⟨fun c => (h c).2.2.1, sem_eq_zero hs fun c => (h c).2.2.2⟩)

end Cert.KernelIdeal.Exchange

end
-- ==== Proof.Value.lean ====
/-
  The values, over the extended reals: what four rounds leave of a row and a column is the activation of the four partial
  sums, the four partial sums are the one sum over the whole contracted axis, and so the result's block on every device
  is its block of the reference's result.
-/
module

public import proofs.«01_k».proof.Proof.Contents
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.KernelIdeal.Exchange

open Cert.KernelIdeal Cert.KernelIdeal.Gen
open Idealize.ShloMosaic Idealize.SL.Sem
open Idealize.ShloMosaic.TcCoe Idealize.ShloMosaic.ValueIdx
open scoped BigOperators

variable (m : (ℓ : Loc nD τ sig) → Buf (Elt Ideal) ℓ)

/-! ## One step of a row and a column -/

/-- The activation of one number, its cube taken the way the reference takes it. -/
def gel (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- An entry of the product of a row tile with a weight tile is the sum over the 2048 contracted positions. -/
theorem pay40_entry (w : Vec Ideal S1x2048x512 .f32) (x : Vec Ideal S1x512x2048 .bf16) (a b : Fin 512) :
    k0_pay40 w x (ix2 a b) = ∑ k : Fin 2048, (x (ix3 0 a k) : EReal) * w (ix3 0 k b) := by
  show matmul (DotDims.plain 512 2048 512) none (shapeCast S512x2048 x shapeCasts_S1x512x2048_S512x2048) (k0_pay39 w)
    (constant S512x512 .f32 0x00000000#32) (ix2 a b) = _
  rw [matmul_zero_eq_dotGeneral, StackMember.dotGeneral_plain_apply]
  refine Finset.sum_congr rfl fun k _ => ?_
  have h1 : shapeCast S512x2048 x shapeCasts_S1x512x2048_S512x2048 (ix2 a k) = x (ix3 0 a k) := shapeCast_1ab_ab_apply x _ a k
  have h2 : k0_pay39 w (ix2 k b) = w (ix3 0 k b) := shapeCast_1ab_ab_apply w shapeCasts_S1x2048x512_S2048x512 k b
  rw [h1, h2]

/-- The first round stores the product itself. -/
theorem stepv_first (w : Vec Ideal S1x2048x512 .f32) (x : Vec Ideal S1x512x2048 .bf16) (a : Vec Ideal S1x512x512 .f32) (i j : Fin 512) :
    stepv 0 w x a (ix3 0 i j) = k0_pay40 w x (ix2 i j) :=
  shapeCast_ab_1ab_apply (k0_pay40 w x) shapeCasts_S512x512_S1x512x512 0 i j

/-- The sum that a later round makes. -/
theorem added (w : Vec Ideal S1x2048x512 .f32) (x : Vec Ideal S1x512x2048 .bf16) (a : Vec Ideal S1x512x512 .f32) (i j : Fin 512) :
    addf (shapeCast S512x512 a shapeCasts_S1x512x512_S512x512) (k0_pay40 w x) (ix2 i j) = (a (ix3 0 i j) : EReal) + k0_pay40 w x (ix2 i j) :=
  congrArg (fun z : EReal => z + k0_pay40 w x (ix2 i j)) (shapeCast_1ab_ab_apply a shapeCasts_S1x512x512_S512x512 i j)

/-- A middle round adds the product to what it finds. -/
theorem stepv_middle (k : ℕ) (h0 : k ≠ 0) (h3 : k ≠ 3) (w : Vec Ideal S1x2048x512 .f32) (x : Vec Ideal S1x512x2048 .bf16)
    (a : Vec Ideal S1x512x512 .f32) (i j : Fin 512) :
    stepv k w x a (ix3 0 i j) = (a (ix3 0 i j) : EReal) + k0_pay40 w x (ix2 i j) := by
  rw [show stepv k w x a = k0_pay42 w x a from (if_neg h0).trans (if_neg h3)]
  exact (shapeCast_ab_1ab_apply _ shapeCasts_S512x512_S1x512x512 0 i j).trans (added w x a i j)

/-- The activation as the last round spells it, of a tile. -/
def gelT (z : FVec Ideal S512x512 .f32) : FVec Ideal S512x512 .f32 :=
  mulf (mulf (broadcast S512x512 (Scalar.ofBits .f32 0x3F000000#32)) z)
    (addf (broadcast S512x512 (Scalar.ofBits .f32 0x3F800000#32))
      (tanh (mulf (broadcast S512x512 (Scalar.ofBits .f32 0x3F4C422A#32))
        (addf z (mulf (mulf (mulf (broadcast S512x512 (Scalar.ofBits .f32 0x3D372713#32)) z) z) z)))))

/-- Its cube is the reference's, the products regrouped. -/
theorem gelT_entry (z : FVec Ideal S512x512 .f32) (y : S512x512.Idx) : (gelT z y : EReal) = gel (z y) := by
  have hc : Ideal.ofBits .f32 0x3D372713#32 * ((z y * z y) * z y : EReal)
      = ((Ideal.ofBits .f32 0x3D372713#32 * z y) * z y) * z y := by
    rw [mul_assoc, mul_assoc, mul_assoc]
  unfold gel
  rw [hc]
  rfl

/-- The last round adds and applies the activation. -/
theorem stepv_last (w : Vec Ideal S1x2048x512 .f32) (x : Vec Ideal S1x512x2048 .bf16) (a : Vec Ideal S1x512x512 .f32) (i j : Fin 512) :
    stepv 3 w x a (ix3 0 i j) = gel ((a (ix3 0 i j) : EReal) + k0_pay40 w x (ix2 i j)) := by
  rw [show stepv 3 w x a = shapeCast S1x512x512 (gelT (addf (shapeCast S512x512 a shapeCasts_S1x512x512_S512x512) (k0_pay40 w x)))
    shapeCasts_S512x512_S1x512x512 from (if_neg (by decide)).trans (if_pos rfl), ← added w x a i j, ← gelT_entry]
  exact shapeCast_ab_1ab_apply _ shapeCasts_S512x512_S1x512x512 0 i j

/-! ## Four rounds -/

/-- The part of a row's and a column's sum that round `k` adds. -/
def part (c : Dev nD) (k : Fin 4) (r : Fin 2048) (b : Fin 4096) : EReal :=
  ∑ z : Fin 2048, (xv m (c + ofs k) (ix2 (rowP c r) z) : EReal) * wv m c (ix2 (rowP (c + ofs k) z) b)

/-- The product that round `k` takes, at a row and a column of tile `n`. -/
theorem product_entry (c : Dev nD) (k : Fin 4) (n : Fin 8) (r : Fin 2048) (b : Fin 512) (hq : r.val / 512 < 4) (hi : r.val % 512 < 512) :
    k0_pay40 (ld (wtile m c k n)) (xt m c k ⟨r.val / 512, hq⟩) (ix2 ⟨r.val % 512, hi⟩ b) = part m c k r (colP n b) := by
  rw [pay40_entry]
  refine Finset.sum_congr rfl fun z _ => ?_
  have hr : rowQ ⟨r.val / 512, hq⟩ ⟨r.val % 512, hi⟩ = r := Fin.ext (by
    show 512 * (r.val / 512) + r.val % 512 = r.val
    omega)
  have hx : (xt m c k ⟨r.val / 512, hq⟩ (ix3 0 ⟨r.val % 512, hi⟩ z) : EReal) = xv m (c + ofs k) (ix2 (rowP c r) z) := by
    show (xv m (c + ofs k) (ix2 (rowP c (rowQ ⟨r.val / 512, hq⟩ ⟨r.val % 512, hi⟩)) z) : EReal) = _
    rw [hr]
  rw [hx]
  rfl

/-- What a round finds at a row of the tile it is given. -/
theorem found (a : S2048x512.Idx → Elt Ideal .f32) (r : Fin 2048) (b : Fin 512) (hq : r.val / 512 < 4) (hi : r.val % 512 < 512) :
    rt a ⟨r.val / 512, hq⟩ (ix3 0 ⟨r.val % 512, hi⟩ b) = a (ix2 r b) :=
  congrArg a (ix2_ext (by show 512 * (r.val / 512) + r.val % 512 = r.val; omega) rfl)

/-- Round 0 leaves its part. -/
theorem tstep_first (c : Dev nD) (n : Fin 8) (a : S2048x512.Idx → Elt Ideal .f32) (r : Fin 2048) (b : Fin 512) :
    (tstep m c 0 n a (ix2 r b) : EReal) = part m c 0 r (colP n b) :=
  (stepv_first _ _ _ _ _).trans (product_entry m c 0 n r b _ _)

/-- Rounds 1 and 2 add their parts. -/
theorem tstep_middle (c : Dev nD) (k : ℕ) (h0 : k ≠ 0) (h3 : k ≠ 3) (n : Fin 8) (a : S2048x512.Idx → Elt Ideal .f32) (r : Fin 2048) (b : Fin 512) :
    (tstep m c k n a (ix2 r b) : EReal) = (a (ix2 r b) : EReal) + part m c (rnd k) r (colP n b) := by
  refine (stepv_middle k h0 h3 _ _ _ _ _).trans ?_
  rw [← product_entry m c (rnd k) n r b (by omega) (Nat.mod_lt _ (by decide)), ← found a r b (by omega) (Nat.mod_lt _ (by decide))]

/-- Round 3 adds its part and applies the activation. -/
theorem tstep_last (c : Dev nD) (n : Fin 8) (a : S2048x512.Idx → Elt Ideal .f32) (r : Fin 2048) (b : Fin 512) :
    (tstep m c 3 n a (ix2 r b) : EReal) = gel ((a (ix2 r b) : EReal) + part m c 3 r (colP n b)) := by
  refine (stepv_last _ _ _ _ _).trans ?_
  rw [← product_entry m c 3 n r b (by omega) (Nat.mod_lt _ (by decide)), ← found a r b (by omega) (Nat.mod_lt _ (by decide))]
  rfl

/-- Four rounds leave the activation of the sum of their four parts. -/
theorem accT_four (c : Dev nD) (n : Fin 8) (r : Fin 2048) (b : Fin 512) :
    (accT m c n 4 (ix2 r b) : EReal) = gel (∑ k : Fin 4, part m c k r (colP n b)) := by
  rw [Fin.sum_univ_four]
  refine (tstep_last m c n _ r b).trans (congrArg (fun z : EReal => gel (z + part m c 3 r (colP n b))) ?_)
  refine (tstep_middle m c 2 (by decide) (by decide) n _ r b).trans (congrArg (fun z : EReal => z + part m c 2 r (colP n b)) ?_)
  refine (tstep_middle m c 1 (by decide) (by decide) n _ r b).trans (congrArg (fun z : EReal => z + part m c 1 r (colP n b)) ?_)
  exact tstep_first m c n _ r b

/-- The same of the whole result. -/
theorem accN_four (c : Dev nD) (r : Fin 2048) (b : Fin 4096) :
    (accN m c 4 (ix2 r b) : EReal) = gel (∑ k : Fin 4, part m c k r b) := by
  have hb : colP ⟨b.val / 512, by omega⟩ ⟨b.val % 512, Nat.mod_lt _ (by decide)⟩ = b := Fin.ext (by
    show 512 * (b.val / 512) + b.val % 512 = b.val
    omega)
  have h := accT_four m c ⟨b.val / 512, by omega⟩ r ⟨b.val % 512, Nat.mod_lt _ (by decide)⟩
  rw [hb] at h
  exact h

/-! ## The whole sum -/

/-- The four devices that a device's rounds read, each once. -/
theorem rounds_bijective (c : Fin 4) : Function.Bijective fun k : Fin 4 => c + ofs k := by revert c; decide

/-- A sum over the contracted axis is the sum over its four blocks of 2048 positions, in the order of the rounds. -/
theorem sum_blocks (c : Fin 4) (f : Fin 8192 → EReal) : ∑ z : Fin 8192, f z = ∑ k : Fin 4, ∑ z : Fin 2048, f (rowP (c + ofs k) z) := by
  rw [(rounds_bijective c).sum_comp fun p => ∑ z : Fin 2048, f (rowP p z), ← Fintype.sum_prod_type' fun (p : Fin 4) (z : Fin 2048) => f (rowP p z)]
  refine ((finProdFinEquiv (m := 4) (n := 2048)).sum_comp f).symm.trans (Finset.sum_congr rfl fun pz _ => congrArg f (Fin.ext ?_))
  show pz.2.val + 2048 * pz.1.val = 2048 * pz.1.val + pz.2.val
  omega

/-! ## The reference's result, and its blocks -/

/-- The reference's result at a row and a column. -/
def outv (X : (⟨2, ![8192, 8192]⟩ : Shape).Idx → EReal) (W : (⟨2, ![8192, 4096]⟩ : Shape).Idx → EReal) :
    (⟨2, ![8192, 4096]⟩ : Shape).Idx → EReal := fun y =>
  gel (∑ z : Fin 8192, X (ix2 (n0 := 8192) (n1 := 8192) (y 0) z) * W (ix2 (n0 := 8192) (n1 := 4096) z (y 1)))

/-- Where the devices hold the columns of `X` and all of `W`, a device's result is its block of the rows. -/
theorem result_block (X : (⟨2, ![8192, 8192]⟩ : Shape).Idx → EReal) (W : (⟨2, ![8192, 4096]⟩ : Shape).Idx → EReal)
    (hx : ∀ d : Dev nD, xv m d = Layout.block ⟨2, ![8192, 2048]⟩ ⟨2, ![8192, 8192]⟩ 1 4 d X) (hw : ∀ d : Dev nD, wv m d = W) (c : Dev nD) :
    accN m c 4 = Layout.block ⟨2, ![2048, 4096]⟩ ⟨2, ![8192, 4096]⟩ 0 4 c (outv X W) := by
  funext y
  have hy : y = ix2 (n0 := 2048) (n1 := 4096) (y 0) (y 1) := eq_ix2 y
  rw [hy]
  refine (accN_four m c (y 0) (y 1)).trans (congrArg gel ?_)
  have hL : ∀ (h : Layout.Tiles ⟨2, ![2048, 4096]⟩ ⟨2, ![8192, 4096]⟩ 0 4), h.idx c (ix2 (n0 := 2048) (n1 := 4096) (y 0) (y 1))
      = ix2 (n0 := 8192) (n1 := 4096) (rowP c (y 0)) (y 1) := by
    intro h
    funext a
    match a with
    | ⟨0, _⟩ => apply Fin.ext; show c.val * 2048 + (y 0).val = 2048 * c.val + (y 0).val; omega
    | ⟨1, _⟩ => rfl
  rw [hL]
  refine Eq.trans ?_ (sum_blocks c fun z => X (ix2 (n0 := 8192) (n1 := 8192) (rowP c (y 0)) z) * W (ix2 (n0 := 8192) (n1 := 4096) z (y 1))).symm
  refine Finset.sum_congr rfl fun k _ => Finset.sum_congr rfl fun z _ => ?_
  have hR : ∀ (h : Layout.Tiles ⟨2, ![8192, 2048]⟩ ⟨2, ![8192, 8192]⟩ 1 4), h.idx (c + ofs k) (ix2 (n0 := 8192) (n1 := 2048) (rowP c (y 0)) z)
      = ix2 (n0 := 8192) (n1 := 8192) (rowP c (y 0)) (rowP (c + ofs k) z) := by
    intro h
    funext a
    match a with
    | ⟨0, _⟩ => rfl
    | ⟨1, _⟩ => apply Fin.ext; show (c + ofs k).val * 2048 + z.val = 2048 * (c + ofs k).val + z.val; omega
  rw [hx, hw, Layout.block_apply, hR]

end Cert.KernelIdeal.Exchange

namespace Cert.ReferenceIdeal.Value

open Cert.ReferenceIdeal Cert.ReferenceIdeal.Gen
open Idealize.ShloMosaic Idealize.ShloMosaic.ValueIdx
open Cert.KernelIdeal.Exchange (gel outv)
open scoped BigOperators

/-- The activation as the reference spells it, of an array. -/
def gelR (Y : FVec Ideal S8192x4096 .f32) : FVec Ideal S8192x4096 .f32 :=
  mulf (mulf (broadcastInDim S8192x4096 ![] bcast_S_S8192x4096 (constant S_ .f32 0x3F000000#32)) Y)
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf Y (mulf (broadcastInDim S8192x4096 ![] bcast_S_S8192x4096 (constant S_ .f32 0x3D372713#32)) (mulf (mulf Y Y) Y))))))

/-- It is taken entry by entry. -/
theorem gelR_entry (Y : FVec Ideal S8192x4096 .f32) (y : S8192x4096.Idx) : (gelR Y y : EReal) = gel (Y y) := rfl

/-- The reference's composed term is, at every row and column, the activation of the whole sum. -/
theorem gelR_product (X : FVec Ideal S8192x8192 .f32) (W : FVec Ideal S8192x4096 .f32) :
    gelR (Host.dotGeneral (F := Ideal) (φ₁ := .f32) (φ₂ := .f32) dot_S8192x8192_S8192x4096_S8192x4096_1_0_0_1_n_n none X W) = outv X W := by
  funext y
  have hy : y = ix2 (n0 := 8192) (n1 := 4096) (y 0) (y 1) := eq_ix2 y
  rw [hy]
  have h : Host.dotGeneral (F := Ideal) (φ₁ := .f32) (φ₂ := .f32) dot_S8192x8192_S8192x4096_S8192x4096_1_0_0_1_n_n none X W (ix2 (n0 := 8192) (n1 := 4096) (y 0) (y 1))
      = ∑ z : Fin 8192, (X (ix2 (n0 := 8192) (n1 := 8192) (y 0) z) : EReal) * W (ix2 (n0 := 8192) (n1 := 4096) z (y 1)) :=
    StackMember.dotGeneral_plain_apply none X W (y 0) (y 1)
  exact (gelR_entry _ _).trans (congrArg gel h)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal.Exchange (run_main result_block outv)

/-- The kernel as printed: the run over bit patterns, read at the arguments. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The idealized kernel: the run over the extended reals, read at the arguments. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference declares no semaphore, and its run keeps the arguments. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value shared is the activation of the whole product: each device of the kernel ends with its block of its rows. -/
theorem algebraic : Cert.algebraic_KernelIdeal_ReferenceIdeal := fun m ρ m' ρ' _ hA =>
  ⟨outv (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans
        (result_block m _ _ (fun d => (hA d).1) (fun d => (hA d).2) c), (h.1 c).1, (h.1 c).2.1⟩) (run_main (F := Ideal) m ρ),
    (θ_run Cert.ReferenceIdeal.defs _ _).mono (fun _ h => ⟨(h 0).1.trans (Cert.ReferenceIdeal.Value.gelR_product _ _), (h 0).2⟩)
      (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
